-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2x128x128x128 : Shape := ⟨5, ![1, 2, 128, 128, 128]⟩
abbrev S1x128x128x128 : Shape := ⟨4, ![1, 128, 128, 128]⟩
abbrev S_ : Shape := ⟨0, ![]⟩
abbrev S1x2x130x130x130 : Shape := ⟨5, ![1, 2, 130, 130, 130]⟩
abbrev S1x1x130x130x130 : Shape := ⟨5, ![1, 1, 130, 130, 130]⟩
abbrev S130x130x130 : Shape := ⟨3, ![130, 130, 130]⟩
abbrev S2197000 : Shape := ⟨1, ![2197000]⟩
abbrev S2097152 : Shape := ⟨1, ![2097152]⟩
abbrev S4096 : Shape := ⟨1, ![4096]⟩
abbrev S16 : Shape := ⟨1, ![16]⟩
abbrev S1x2097152 : Shape := ⟨2, ![1, 2097152]⟩
abbrev S2x2097152 : Shape := ⟨2, ![2, 2097152]⟩

abbrev nBuf : Table → Nat
  | .hbm => 22
  | .local .scVector .vmem => 29
  | _ => 0

abbrev bufTy : (tb : Table) → Fin (nBuf tb) → BufTy
  | .hbm, ⟨0, _⟩ => ⟨S1x2x128x128x128, .f32⟩
  | .hbm, ⟨1, _⟩ => ⟨S1x128x128x128, .f32⟩
  | .hbm, ⟨2, _⟩ => ⟨S1x128x128x128, .f32⟩
  | .hbm, ⟨3, _⟩ => ⟨S1x128x128x128, .f32⟩
  | .hbm, ⟨4, _⟩ => ⟨S_, .i32⟩
  | .hbm, ⟨5, _⟩ => ⟨S_, .f32⟩
  | .hbm, ⟨6, _⟩ => ⟨S1x2x130x130x130, .f32⟩
  | .hbm, ⟨7, _⟩ => ⟨S1x1x130x130x130, .f32⟩
  | .hbm, ⟨8, _⟩ => ⟨S130x130x130, .f32⟩
  | .hbm, ⟨9, _⟩ => ⟨S2197000, .f32⟩
  | .hbm, ⟨10, _⟩ => ⟨S1x1x130x130x130, .f32⟩
  | .hbm, ⟨11, _⟩ => ⟨S130x130x130, .f32⟩
  | .hbm, ⟨12, _⟩ => ⟨S2197000, .f32⟩
  | .hbm, ⟨13, _⟩ => ⟨S2097152, .f32⟩
  | .hbm, ⟨14, _⟩ => ⟨S2097152, .f32⟩
  | .hbm, ⟨15, _⟩ => ⟨S2097152, .f32⟩
  | .hbm, ⟨16, _⟩ => ⟨S2097152, .f32⟩
  | .hbm, ⟨17, _⟩ => ⟨S2097152, .f32⟩
  | .hbm, ⟨18, _⟩ => ⟨S1x2097152, .f32⟩
  | .hbm, ⟨19, _⟩ => ⟨S1x2097152, .f32⟩
  | .hbm, ⟨20, _⟩ => ⟨S2x2097152, .f32⟩
  | .hbm, ⟨21, _⟩ => ⟨S1x2x128x128x128, .f32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S4096, .i32⟩
  | .local .scVector .vmem, ⟨4, _⟩ => ⟨S4096, .i32⟩
  | .local .scVector .vmem, ⟨5, _⟩ => ⟨S4096, .i32⟩
  | .local .scVector .vmem, ⟨6, _⟩ => ⟨S4096, .i32⟩
  | .local .scVector .vmem, ⟨7, _⟩ => ⟨S4096, .i32⟩
  | .local .scVector .vmem, ⟨8, _⟩ => ⟨S4096, .i32⟩
  | .local .scVector .vmem, ⟨9, _⟩ => ⟨S4096, .i32⟩
  | .local .scVector .vmem, ⟨10, _⟩ => ⟨S4096, .i32⟩
  | .local .scVector .vmem, ⟨11, _⟩ => ⟨S4096, .f32⟩
  | .local .scVector .vmem, ⟨12, _⟩ => ⟨S4096, .f32⟩
  | .local .scVector .vmem, ⟨13, _⟩ => ⟨S4096, .f32⟩
  | .local .scVector .vmem, ⟨14, _⟩ => ⟨S4096, .f32⟩
  | .local .scVector .vmem, ⟨15, _⟩ => ⟨S4096, .f32⟩
  | .local .scVector .vmem, ⟨16, _⟩ => ⟨S4096, .f32⟩
  | .local .scVector .vmem, ⟨17, _⟩ => ⟨S4096, .f32⟩
  | .local .scVector .vmem, ⟨18, _⟩ => ⟨S4096, .f32⟩
  | .local .scVector .vmem, ⟨19, _⟩ => ⟨S4096, .f32⟩
  | .local .scVector .vmem, ⟨20, _⟩ => ⟨S4096, .f32⟩
  | .local .scVector .vmem, ⟨21, _⟩ => ⟨S4096, .f32⟩
  | .local .scVector .vmem, ⟨22, _⟩ => ⟨S4096, .f32⟩
  | .local .scVector .vmem, ⟨23, _⟩ => ⟨S4096, .f32⟩
  | .local .scVector .vmem, ⟨24, _⟩ => ⟨S4096, .f32⟩
  | .local .scVector .vmem, ⟨25, _⟩ => ⟨S4096, .f32⟩
  | .local .scVector .vmem, ⟨26, _⟩ => ⟨S4096, .f32⟩
  | .local .scVector .vmem, ⟨27, _⟩ => ⟨S4096, .f32⟩
  | .local .scVector .vmem, ⟨28, _⟩ => ⟨S4096, .f32⟩
  | _, _ => ⟨S1x2x128x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v3_scv : Ref sig .scVector := ⟨.hbm, 9, rfl⟩
abbrev main_v6_scv : Ref sig .scVector := ⟨.hbm, 12, rfl⟩
abbrev main_v7_scv : Ref sig .scVector := ⟨.hbm, 13, rfl⟩
abbrev main_v8_scv : Ref sig .scVector := ⟨.hbm, 14, rfl⟩
abbrev main_v9_scv : Ref sig .scVector := ⟨.hbm, 15, rfl⟩
abbrev main_v10_0_scv : Ref sig .scVector := ⟨.hbm, 16, rfl⟩
abbrev main_v10_1_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev cc0_scratch26 : Ref sig .scVector := ⟨.vmem, 26, rfl⟩
abbrev cc0_scratch27 : Ref sig .scVector := ⟨.vmem, 27, rfl⟩
abbrev cc0_scratch28 : Ref sig .scVector := ⟨.vmem, 28, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg39 : BitVec 32 := Scf.iv c0_i32_0 c1_i32 k0_t1
  let c4096_i32 : BitVec 32 := 4096#32
  let v5 : BitVec 32 := Scalar.muli arg39 c4096_i32
  let v6 : BitVec 32 := Scalar.addi v2 v5
  ![v6.toNat]
@[reducible] def k0_t2_loop : Scf.Loop 32 :=
  let c0_i32_3 : BitVec 32 := 0#32
  let c256_i32 : BitVec 32 := 256#32
  let v7 : BitVec 32 := Scalar.addi c0_i32_3 c256_i32
  let c1_i32_4 : BitVec 32 := 1#32
  ⟨c0_i32_3, v7, c1_i32_4⟩
def k0_off2 (k0_t2 : Fin k0_t2_loop.trips) : Fin 1 → Nat :=
  let c0_i32_3 : BitVec 32 := 0#32
  let c1_i32_4 : BitVec 32 := 1#32
  let arg40 : BitVec 32 := Scf.iv c0_i32_3 c1_i32_4 k0_t2
  let c16_i32_43 : BitVec 32 := 16#32
  let v41 : BitVec 32 := Scalar.muli arg40 c16_i32_43
  let v54 : Index := Scalar.indexCast v41
  ![v54.toNat]
@[reducible] def k0_t3_loop : Scf.Loop 32 :=
  let c0_i32_39 : BitVec 32 := 0#32
  let c256_i32_40 : BitVec 32 := 256#32
  let v40 : BitVec 32 := Scalar.addi c0_i32_39 c256_i32_40
  let c1_i32_41 : BitVec 32 := 1#32
  ⟨c0_i32_39, v40, c1_i32_41⟩
def k0_off3 (k0_t3 : Fin k0_t3_loop.trips) : Fin 1 → Nat :=
  let c0_i32_39 : BitVec 32 := 0#32
  let c1_i32_41 : BitVec 32 := 1#32
  let arg40 : BitVec 32 := Scf.iv c0_i32_39 c1_i32_41 k0_t3
  let c16_i32_43 : BitVec 32 := 16#32
  let v41 : BitVec 32 := Scalar.muli arg40 c16_i32_43
  let v42 : Index := Scalar.indexCast v41
  ![v42.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2x128x128x128 : Shape := ⟨5, ![1, 2, 128, 128, 128]⟩
abbrev S1x128x128x128 : Shape := ⟨4, ![1, 128, 128, 128]⟩
abbrev S_ : Shape := ⟨0, ![]⟩
abbrev S127 : Shape := ⟨1, ![127]⟩
abbrev S1 : Shape := ⟨1, ![1]⟩
abbrev S128 : Shape := ⟨1, ![128]⟩
abbrev S1x128x1 : Shape := ⟨3, ![1, 128, 1]⟩
abbrev S128x128x128 : Shape := ⟨3, ![128, 128, 128]⟩
abbrev S128x1x1 : Shape := ⟨3, ![128, 1, 1]⟩
abbrev S1x1x128 : Shape := ⟨3, ![1, 1, 128]⟩
abbrev S1x2x130x130x130 : Shape := ⟨5, ![1, 2, 130, 130, 130]⟩
abbrev S1x1x128x128x128 : Shape := ⟨5, ![1, 1, 128, 128, 128]⟩
abbrev S2x2097152 : Shape := ⟨2, ![2, 2097152]⟩
abbrev S2 : Shape := ⟨1, ![2]⟩
abbrev S2x1 : Shape := ⟨2, ![2, 1]⟩
abbrev S2197000x2 : Shape := ⟨2, ![2197000, 2]⟩
abbrev S4394000 : Shape := ⟨1, ![4394000]⟩
abbrev S4194304 : Shape := ⟨1, ![4194304]⟩
abbrev S4194304x1 : Shape := ⟨2, ![4194304, 1]⟩
abbrev S1x1 : Shape := ⟨2, ![1, 1]⟩

abbrev nBuf : Space → Nat
  | .hbm => 491
  | .vmem => 0
  | .smem => 0
  | _ => 0

abbrev hbmTy0_0 (i : Nat) : BufTy := match i % 128 with
  | 0 => ⟨S1x2x128x128x128, .f32⟩
  | 1 => ⟨S1x128x128x128, .f32⟩
  | 2 => ⟨S1x128x128x128, .f32⟩
  | 3 => ⟨S1x128x128x128, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S127, .f32⟩
  | 12 => ⟨S_, .f32⟩
  | 13 => ⟨S127, .f32⟩
  | 14 => ⟨S127, .f32⟩
  | 15 => ⟨S1, .f32⟩
  | 16 => ⟨S_, .f32⟩
  | 17 => ⟨S127, .f32⟩
  | 18 => ⟨S127, .f32⟩
  | 19 => ⟨S127, .f32⟩
  | 20 => ⟨S127, .f32⟩
  | 21 => ⟨S1, .f32⟩
  | 22 => ⟨S127, .f32⟩
  | 23 => ⟨S127, .f32⟩
  | 24 => ⟨S127, .f32⟩
  | 25 => ⟨S1, .f32⟩
  | 26 => ⟨S128, .f32⟩
  | 27 => ⟨S1x128x1, .f32⟩
  | 28 => ⟨S128x128x128, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S127, .f32⟩
  | 37 => ⟨S_, .f32⟩
  | 38 => ⟨S127, .f32⟩
  | 39 => ⟨S127, .f32⟩
  | 40 => ⟨S1, .f32⟩
  | 41 => ⟨S_, .f32⟩
  | 42 => ⟨S127, .f32⟩
  | 43 => ⟨S127, .f32⟩
  | 44 => ⟨S127, .f32⟩
  | 45 => ⟨S127, .f32⟩
  | 46 => ⟨S1, .f32⟩
  | 47 => ⟨S127, .f32⟩
  | 48 => ⟨S127, .f32⟩
  | 49 => ⟨S127, .f32⟩
  | 50 => ⟨S1, .f32⟩
  | 51 => ⟨S128, .f32⟩
  | 52 => ⟨S128x1x1, .f32⟩
  | 53 => ⟨S128x128x128, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S127, .f32⟩
  | 62 => ⟨S_, .f32⟩
  | 63 => ⟨S127, .f32⟩
  | 64 => ⟨S127, .f32⟩
  | 65 => ⟨S1, .f32⟩
  | 66 => ⟨S_, .f32⟩
  | 67 => ⟨S127, .f32⟩
  | 68 => ⟨S127, .f32⟩
  | 69 => ⟨S127, .f32⟩
  | 70 => ⟨S127, .f32⟩
  | 71 => ⟨S1, .f32⟩
  | 72 => ⟨S127, .f32⟩
  | 73 => ⟨S127, .f32⟩
  | 74 => ⟨S127, .f32⟩
  | 75 => ⟨S1, .f32⟩
  | 76 => ⟨S128, .f32⟩
  | 77 => ⟨S1x1x128, .f32⟩
  | 78 => ⟨S128x128x128, .f32⟩
  | 79 => ⟨S1x128x128x128, .f32⟩
  | 80 => ⟨S1x128x128x128, .f32⟩
  | 81 => ⟨S1x128x128x128, .f32⟩
  | 82 => ⟨S1x128x128x128, .f32⟩
  | 83 => ⟨S1x128x128x128, .f32⟩
  | 84 => ⟨S1x128x128x128, .f32⟩
  | 85 => ⟨S_, .i32⟩
  | 86 => ⟨S_, .f32⟩
  | 87 => ⟨S1x2x130x130x130, .f32⟩
  | 88 => ⟨S1x1x128x128x128, .f32⟩
  | 89 => ⟨S1x2x128x128x128, .f32⟩
  | 90 => ⟨S2x2097152, .f32⟩
  | 91 => ⟨S_, .f32⟩
  | 92 => ⟨S2x2097152, .f32⟩
  | 93 => ⟨S2x2097152, .f32⟩
  | 94 => ⟨S1x1x128x128x128, .f32⟩
  | 95 => ⟨S1x2x128x128x128, .f32⟩
  | 96 => ⟨S2x2097152, .f32⟩
  | 97 => ⟨S_, .f32⟩
  | 98 => ⟨S2x2097152, .f32⟩
  | 99 => ⟨S2x2097152, .f32⟩
  | 100 => ⟨S1x1x128x128x128, .f32⟩
  | 101 => ⟨S1x2x128x128x128, .f32⟩
  | 102 => ⟨S2x2097152, .f32⟩
  | 103 => ⟨S_, .f32⟩
  | 104 => ⟨S2x2097152, .f32⟩
  | 105 => ⟨S2x2097152, .f32⟩
  | 106 => ⟨S2x2097152, .f32⟩
  | 107 => ⟨S2x2097152, .i32⟩
  | 108 => ⟨S_, .i32⟩
  | 109 => ⟨S2x2097152, .i32⟩
  | 110 => ⟨S2x2097152, .i32⟩
  | 111 => ⟨S2x2097152, .f32⟩
  | 112 => ⟨S2x2097152, .i32⟩
  | 113 => ⟨S_, .i32⟩
  | 114 => ⟨S2x2097152, .i32⟩
  | 115 => ⟨S2x2097152, .i32⟩
  | 116 => ⟨S2x2097152, .f32⟩
  | 117 => ⟨S2x2097152, .i32⟩
  | 118 => ⟨S_, .i32⟩
  | 119 => ⟨S2x2097152, .i32⟩
  | 120 => ⟨S2x2097152, .i32⟩
  | 121 => ⟨S_, .i32⟩
  | 122 => ⟨S_, .i32⟩
  | 123 => ⟨S_, .i32⟩
  | 124 => ⟨S2x2097152, .i32⟩
  | 125 => ⟨S2x2097152, .i32⟩
  | 126 => ⟨S_, .i32⟩
  | 127 => ⟨S2x2097152, .i32⟩
  | _ => ⟨S1x2x128x128x128, .f32⟩

abbrev hbmTy0_1 (i : Nat) : BufTy := match i % 128 with
  | 0 => ⟨S2x2097152, .i32⟩
  | 1 => ⟨S_, .i32⟩
  | 2 => ⟨S_, .i32⟩
  | 3 => ⟨S_, .i32⟩
  | 4 => ⟨S2x2097152, .i32⟩
  | 5 => ⟨S2x2097152, .i32⟩
  | 6 => ⟨S_, .i32⟩
  | 7 => ⟨S2x2097152, .i32⟩
  | 8 => ⟨S2x2097152, .i32⟩
  | 9 => ⟨S_, .i32⟩
  | 10 => ⟨S_, .i32⟩
  | 11 => ⟨S_, .i32⟩
  | 12 => ⟨S2x2097152, .i32⟩
  | 13 => ⟨S2x2097152, .i32⟩
  | 14 => ⟨S_, .i32⟩
  | 15 => ⟨S2x2097152, .i32⟩
  | 16 => ⟨S2x2097152, .i32⟩
  | 17 => ⟨S_, .i32⟩
  | 18 => ⟨S_, .i32⟩
  | 19 => ⟨S_, .i32⟩
  | 20 => ⟨S2x2097152, .i32⟩
  | 21 => ⟨S2x2097152, .i32⟩
  | 22 => ⟨S_, .i32⟩
  | 23 => ⟨S2x2097152, .i32⟩
  | 24 => ⟨S2x2097152, .i32⟩
  | 25 => ⟨S_, .i32⟩
  | 26 => ⟨S_, .i32⟩
  | 27 => ⟨S_, .i32⟩
  | 28 => ⟨S2x2097152, .i32⟩
  | 29 => ⟨S2x2097152, .i32⟩
  | 30 => ⟨S_, .i32⟩
  | 31 => ⟨S2x2097152, .i32⟩
  | 32 => ⟨S2x2097152, .i32⟩
  | 33 => ⟨S_, .i32⟩
  | 34 => ⟨S_, .i32⟩
  | 35 => ⟨S_, .i32⟩
  | 36 => ⟨S2x2097152, .i32⟩
  | 37 => ⟨S2x2097152, .i32⟩
  | 38 => ⟨S_, .i32⟩
  | 39 => ⟨S2x2097152, .i32⟩
  | 40 => ⟨S2x2097152, .i32⟩
  | 41 => ⟨S2, .i32⟩
  | 42 => ⟨S_, .i32⟩
  | 43 => ⟨S2, .i32⟩
  | 44 => ⟨S2, .i32⟩
  | 45 => ⟨S2x1, .i32⟩
  | 46 => ⟨S2x2097152, .i32⟩
  | 47 => ⟨S_, .i32⟩
  | 48 => ⟨S2x2097152, .i32⟩
  | 49 => ⟨S2x2097152, .i32⟩
  | 50 => ⟨S2x2097152, .i32⟩
  | 51 => ⟨S_, .i32⟩
  | 52 => ⟨S2x2097152, .i32⟩
  | 53 => ⟨S2x2097152, .i32⟩
  | 54 => ⟨S2x2097152, .i32⟩
  | 55 => ⟨S_, .i32⟩
  | 56 => ⟨S2x2097152, .i32⟩
  | 57 => ⟨S2x2097152, .i32⟩
  | 58 => ⟨S2x2097152, .i32⟩
  | 59 => ⟨S2x2097152, .i32⟩
  | 60 => ⟨S_, .i32⟩
  | 61 => ⟨S2x2097152, .i32⟩
  | 62 => ⟨S2x2097152, .i32⟩
  | 63 => ⟨S2x2097152, .i32⟩
  | 64 => ⟨S2x2097152, .i32⟩
  | 65 => ⟨S_, .i32⟩
  | 66 => ⟨S2x2097152, .i32⟩
  | 67 => ⟨S2x2097152, .i32⟩
  | 68 => ⟨S2x2097152, .i32⟩
  | 69 => ⟨S2x2097152, .i32⟩
  | 70 => ⟨S_, .i32⟩
  | 71 => ⟨S2x2097152, .i32⟩
  | 72 => ⟨S2x2097152, .i32⟩
  | 73 => ⟨S2x2097152, .i32⟩
  | 74 => ⟨S2x2097152, .i32⟩
  | 75 => ⟨S_, .i32⟩
  | 76 => ⟨S2x2097152, .i32⟩
  | 77 => ⟨S2x2097152, .i32⟩
  | 78 => ⟨S2x2097152, .i32⟩
  | 79 => ⟨S2x2097152, .i32⟩
  | 80 => ⟨S_, .i32⟩
  | 81 => ⟨S2x2097152, .i32⟩
  | 82 => ⟨S2x2097152, .i32⟩
  | 83 => ⟨S2x2097152, .i32⟩
  | 84 => ⟨S2x2097152, .i32⟩
  | 85 => ⟨S_, .i32⟩
  | 86 => ⟨S2x2097152, .i32⟩
  | 87 => ⟨S2x2097152, .i32⟩
  | 88 => ⟨S2x2097152, .i32⟩
  | 89 => ⟨S2x2097152, .i32⟩
  | 90 => ⟨S_, .i32⟩
  | 91 => ⟨S2x2097152, .i32⟩
  | 92 => ⟨S2x2097152, .i32⟩
  | 93 => ⟨S2x2097152, .i32⟩
  | 94 => ⟨S2x2097152, .i32⟩
  | 95 => ⟨S2197000x2, .f32⟩
  | 96 => ⟨S4394000, .f32⟩
  | 97 => ⟨S4194304, .i32⟩
  | 98 => ⟨S_, .i32⟩
  | 99 => ⟨S4194304, .i32⟩
  | 100 => ⟨S4194304, .i1⟩
  | 101 => ⟨S_, .i32⟩
  | 102 => ⟨S4194304, .i32⟩
  | 103 => ⟨S4194304, .i32⟩
  | 104 => ⟨S4194304, .i32⟩
  | 105 => ⟨S4194304x1, .i32⟩
  | 106 => ⟨S1, .i32⟩
  | 107 => ⟨S_, .i32⟩
  | 108 => ⟨S4194304x1, .i32⟩
  | 109 => ⟨S4194304x1, .i1⟩
  | 110 => ⟨S1x1, .i32⟩
  | 111 => ⟨S4194304x1, .i32⟩
  | 112 => ⟨S4194304x1, .i1⟩
  | 113 => ⟨S4194304x1, .i1⟩
  | 114 => ⟨S_, .i1⟩
  | 115 => ⟨S4194304, .i1⟩
  | 116 => ⟨S4194304, .f32⟩
  | 117 => ⟨S_, .f32⟩
  | 118 => ⟨S4194304, .f32⟩
  | 119 => ⟨S4194304, .f32⟩
  | 120 => ⟨S2x2097152, .f32⟩
  | 121 => ⟨S4194304, .i32⟩
  | 122 => ⟨S_, .i32⟩
  | 123 => ⟨S4194304, .i32⟩
  | 124 => ⟨S4194304, .i1⟩
  | 125 => ⟨S_, .i32⟩
  | 126 => ⟨S4194304, .i32⟩
  | 127 => ⟨S4194304, .i32⟩
  | _ => ⟨S1x2x128x128x128, .f32⟩

abbrev hbmTy0_2 (i : Nat) : BufTy := match i % 128 with
  | 0 => ⟨S4194304, .i32⟩
  | 1 => ⟨S4194304x1, .i32⟩
  | 2 => ⟨S1, .i32⟩
  | 3 => ⟨S_, .i32⟩
  | 4 => ⟨S4194304x1, .i32⟩
  | 5 => ⟨S4194304x1, .i1⟩
  | 6 => ⟨S1x1, .i32⟩
  | 7 => ⟨S4194304x1, .i32⟩
  | 8 => ⟨S4194304x1, .i1⟩
  | 9 => ⟨S4194304x1, .i1⟩
  | 10 => ⟨S_, .i1⟩
  | 11 => ⟨S4194304, .i1⟩
  | 12 => ⟨S4194304, .f32⟩
  | 13 => ⟨S_, .f32⟩
  | 14 => ⟨S4194304, .f32⟩
  | 15 => ⟨S4194304, .f32⟩
  | 16 => ⟨S2x2097152, .f32⟩
  | 17 => ⟨S4194304, .i32⟩
  | 18 => ⟨S_, .i32⟩
  | 19 => ⟨S4194304, .i32⟩
  | 20 => ⟨S4194304, .i1⟩
  | 21 => ⟨S_, .i32⟩
  | 22 => ⟨S4194304, .i32⟩
  | 23 => ⟨S4194304, .i32⟩
  | 24 => ⟨S4194304, .i32⟩
  | 25 => ⟨S4194304x1, .i32⟩
  | 26 => ⟨S1, .i32⟩
  | 27 => ⟨S_, .i32⟩
  | 28 => ⟨S4194304x1, .i32⟩
  | 29 => ⟨S4194304x1, .i1⟩
  | 30 => ⟨S1x1, .i32⟩
  | 31 => ⟨S4194304x1, .i32⟩
  | 32 => ⟨S4194304x1, .i1⟩
  | 33 => ⟨S4194304x1, .i1⟩
  | 34 => ⟨S_, .i1⟩
  | 35 => ⟨S4194304, .i1⟩
  | 36 => ⟨S4194304, .f32⟩
  | 37 => ⟨S_, .f32⟩
  | 38 => ⟨S4194304, .f32⟩
  | 39 => ⟨S4194304, .f32⟩
  | 40 => ⟨S2x2097152, .f32⟩
  | 41 => ⟨S4194304, .i32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S1, .i32⟩
  | 51 => ⟨S_, .i32⟩
  | 52 => ⟨S4194304x1, .i32⟩
  | 53 => ⟨S4194304x1, .i1⟩
  | 54 => ⟨S1x1, .i32⟩
  | 55 => ⟨S4194304x1, .i32⟩
  | 56 => ⟨S4194304x1, .i1⟩
  | 57 => ⟨S4194304x1, .i1⟩
  | 58 => ⟨S_, .i1⟩
  | 59 => ⟨S4194304, .i1⟩
  | 60 => ⟨S4194304, .f32⟩
  | 61 => ⟨S_, .f32⟩
  | 62 => ⟨S4194304, .f32⟩
  | 63 => ⟨S4194304, .f32⟩
  | 64 => ⟨S2x2097152, .f32⟩
  | 65 => ⟨S4194304, .i32⟩
  | 66 => ⟨S_, .i32⟩
  | 67 => ⟨S4194304, .i32⟩
  | 68 => ⟨S4194304, .i1⟩
  | 69 => ⟨S_, .i32⟩
  | 70 => ⟨S4194304, .i32⟩
  | 71 => ⟨S4194304, .i32⟩
  | 72 => ⟨S4194304, .i32⟩
  | 73 => ⟨S4194304x1, .i32⟩
  | 74 => ⟨S1, .i32⟩
  | 75 => ⟨S_, .i32⟩
  | 76 => ⟨S4194304x1, .i32⟩
  | 77 => ⟨S4194304x1, .i1⟩
  | 78 => ⟨S1x1, .i32⟩
  | 79 => ⟨S4194304x1, .i32⟩
  | 80 => ⟨S4194304x1, .i1⟩
  | 81 => ⟨S4194304x1, .i1⟩
  | 82 => ⟨S_, .i1⟩
  | 83 => ⟨S4194304, .i1⟩
  | 84 => ⟨S4194304, .f32⟩
  | 85 => ⟨S_, .f32⟩
  | 86 => ⟨S4194304, .f32⟩
  | 87 => ⟨S4194304, .f32⟩
  | 88 => ⟨S2x2097152, .f32⟩
  | 89 => ⟨S4194304, .i32⟩
  | 90 => ⟨S_, .i32⟩
  | 91 => ⟨S4194304, .i32⟩
  | 92 => ⟨S4194304, .i1⟩
  | 93 => ⟨S_, .i32⟩
  | 94 => ⟨S4194304, .i32⟩
  | 95 => ⟨S4194304, .i32⟩
  | 96 => ⟨S4194304, .i32⟩
  | 97 => ⟨S4194304x1, .i32⟩
  | 98 => ⟨S1, .i32⟩
  | 99 => ⟨S_, .i32⟩
  | 100 => ⟨S4194304x1, .i32⟩
  | 101 => ⟨S4194304x1, .i1⟩
  | 102 => ⟨S1x1, .i32⟩
  | 103 => ⟨S4194304x1, .i32⟩
  | 104 => ⟨S4194304x1, .i1⟩
  | 105 => ⟨S4194304x1, .i1⟩
  | 106 => ⟨S_, .i1⟩
  | 107 => ⟨S4194304, .i1⟩
  | 108 => ⟨S4194304, .f32⟩
  | 109 => ⟨S_, .f32⟩
  | 110 => ⟨S4194304, .f32⟩
  | 111 => ⟨S4194304, .f32⟩
  | 112 => ⟨S2x2097152, .f32⟩
  | 113 => ⟨S4194304, .i32⟩
  | 114 => ⟨S_, .i32⟩
  | 115 => ⟨S4194304, .i32⟩
  | 116 => ⟨S4194304, .i1⟩
  | 117 => ⟨S_, .i32⟩
  | 118 => ⟨S4194304, .i32⟩
  | 119 => ⟨S4194304, .i32⟩
  | 120 => ⟨S4194304, .i32⟩
  | 121 => ⟨S4194304x1, .i32⟩
  | 122 => ⟨S1, .i32⟩
  | 123 => ⟨S_, .i32⟩
  | 124 => ⟨S4194304x1, .i32⟩
  | 125 => ⟨S4194304x1, .i1⟩
  | 126 => ⟨S1x1, .i32⟩
  | 127 => ⟨S4194304x1, .i32⟩
  | _ => ⟨S1x2x128x128x128, .f32⟩

abbrev hbmTy0_3 (i : Nat) : BufTy := match i % 128 with
  | 0 => ⟨S4194304x1, .i1⟩
  | 1 => ⟨S4194304x1, .i1⟩
  | 2 => ⟨S_, .i1⟩
  | 3 => ⟨S4194304, .i1⟩
  | 4 => ⟨S4194304, .f32⟩
  | 5 => ⟨S_, .f32⟩
  | 6 => ⟨S4194304, .f32⟩
  | 7 => ⟨S4194304, .f32⟩
  | 8 => ⟨S2x2097152, .f32⟩
  | 9 => ⟨S4194304, .i32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S4194304x1, .i32⟩
  | 18 => ⟨S1, .i32⟩
  | 19 => ⟨S_, .i32⟩
  | 20 => ⟨S4194304x1, .i32⟩
  | 21 => ⟨S4194304x1, .i1⟩
  | 22 => ⟨S1x1, .i32⟩
  | 23 => ⟨S4194304x1, .i32⟩
  | 24 => ⟨S4194304x1, .i1⟩
  | 25 => ⟨S4194304x1, .i1⟩
  | 26 => ⟨S_, .i1⟩
  | 27 => ⟨S4194304, .i1⟩
  | 28 => ⟨S4194304, .f32⟩
  | 29 => ⟨S_, .f32⟩
  | 30 => ⟨S4194304, .f32⟩
  | 31 => ⟨S4194304, .f32⟩
  | 32 => ⟨S2x2097152, .f32⟩
  | 33 => ⟨S2x2097152, .f32⟩
  | 34 => ⟨S2x2097152, .f32⟩
  | 35 => ⟨S2x2097152, .f32⟩
  | 36 => ⟨S2x2097152, .f32⟩
  | 37 => ⟨S2x2097152, .f32⟩
  | 38 => ⟨S2x2097152, .f32⟩
  | 39 => ⟨S2x2097152, .f32⟩
  | 40 => ⟨S2x2097152, .f32⟩
  | 41 => ⟨S2x2097152, .f32⟩
  | 42 => ⟨S_, .f32⟩
  | 43 => ⟨S2x2097152, .f32⟩
  | 44 => ⟨S2x2097152, .f32⟩
  | 45 => ⟨S2x2097152, .f32⟩
  | 46 => ⟨S_, .f32⟩
  | 47 => ⟨S2x2097152, .f32⟩
  | 48 => ⟨S2x2097152, .f32⟩
  | 49 => ⟨S2x2097152, .f32⟩
  | 50 => ⟨S2x2097152, .f32⟩
  | 51 => ⟨S_, .f32⟩
  | 52 => ⟨S2x2097152, .f32⟩
  | 53 => ⟨S2x2097152, .f32⟩
  | 54 => ⟨S2x2097152, .f32⟩
  | 55 => ⟨S_, .f32⟩
  | 56 => ⟨S2x2097152, .f32⟩
  | 57 => ⟨S2x2097152, .f32⟩
  | 58 => ⟨S2x2097152, .f32⟩
  | 59 => ⟨S_, .f32⟩
  | 60 => ⟨S2x2097152, .f32⟩
  | 61 => ⟨S2x2097152, .f32⟩
  | 62 => ⟨S2x2097152, .f32⟩
  | 63 => ⟨S2x2097152, .f32⟩
  | 64 => ⟨S_, .f32⟩
  | 65 => ⟨S2x2097152, .f32⟩
  | 66 => ⟨S2x2097152, .f32⟩
  | 67 => ⟨S2x2097152, .f32⟩
  | 68 => ⟨S_, .f32⟩
  | 69 => ⟨S2x2097152, .f32⟩
  | 70 => ⟨S2x2097152, .f32⟩
  | 71 => ⟨S2x2097152, .f32⟩
  | 72 => ⟨S_, .f32⟩
  | 73 => ⟨S2x2097152, .f32⟩
  | 74 => ⟨S2x2097152, .f32⟩
  | 75 => ⟨S_, .f32⟩
  | 76 => ⟨S2x2097152, .f32⟩
  | 77 => ⟨S2x2097152, .f32⟩
  | 78 => ⟨S2x2097152, .f32⟩
  | 79 => ⟨S2x2097152, .f32⟩
  | 80 => ⟨S_, .f32⟩
  | 81 => ⟨S2x2097152, .f32⟩
  | 82 => ⟨S2x2097152, .f32⟩
  | 83 => ⟨S_, .f32⟩
  | 84 => ⟨S2x2097152, .f32⟩
  | 85 => ⟨S2x2097152, .f32⟩
  | 86 => ⟨S2x2097152, .f32⟩
  | 87 => ⟨S_, .f32⟩
  | 88 => ⟨S2x2097152, .f32⟩
  | 89 => ⟨S2x2097152, .f32⟩
  | 90 => ⟨S2x2097152, .f32⟩
  | 91 => ⟨S2x2097152, .f32⟩
  | 92 => ⟨S2x2097152, .f32⟩
  | 93 => ⟨S2x2097152, .f32⟩
  | 94 => ⟨S2x2097152, .f32⟩
  | 95 => ⟨S2x2097152, .f32⟩
  | 96 => ⟨S2x2097152, .f32⟩
  | 97 => ⟨S2x2097152, .f32⟩
  | 98 => ⟨S2x2097152, .f32⟩
  | 99 => ⟨S2x2097152, .f32⟩
  | 100 => ⟨S2x2097152, .f32⟩
  | 101 => ⟨S2x2097152, .f32⟩
  | 102 => ⟨S2x2097152, .f32⟩
  | 103 => ⟨S2x2097152, .f32⟩
  | 104 => ⟨S2x2097152, .f32⟩
  | 105 => ⟨S2x2097152, .f32⟩
  | 106 => ⟨S1x2x128x128x128, .f32⟩
  | _ => ⟨S1x2x128x128x128, .f32⟩

abbrev hbmTy (i : Nat) : BufTy := match i / 128 with
  | 0 => hbmTy0_0 i
  | 1 => hbmTy0_1 i
  | 2 => hbmTy0_2 i
  | 3 => hbmTy0_3 i
  | _ => ⟨S1x2x128x128x128, .f32⟩

abbrev bufTy : (tb : Table) → Fin (tcTables nBuf tb) → BufTy
  | .hbm, ⟨i, _⟩ => hbmTy i
  | _, _ => ⟨S1x2x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst_1 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_3 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_cst : Ref sig .tc := ⟨.hbm, 59, rfl⟩
abbrev main_call2_v3 : Ref sig .tc := ⟨.hbm, 60, rfl⟩
abbrev main_call2_v4 : Ref sig .tc := ⟨.hbm, 61, rfl⟩
abbrev main_call2_cst_0 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_cst_1 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_v15 : Ref sig .tc := ⟨.hbm, 74, rfl⟩
abbrev main_call2_v16 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_c : Ref sig .tc := ⟨.hbm, 85, rfl⟩
abbrev main_call3_v0 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_cst_5 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_cst_6 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_cst_7 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_c_8 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_c_9 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_c_10 : Ref sig .tc := ⟨.hbm, 118, rfl⟩
abbrev main_v41 : Ref sig .tc := ⟨.hbm, 119, rfl⟩
abbrev main_v42 : Ref sig .tc := ⟨.hbm, 120, rfl⟩
abbrev main_c_11 : Ref sig .tc := ⟨.hbm, 121, rfl⟩
abbrev main_c_12 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v43 : Ref sig .tc := ⟨.hbm, 128, rfl⟩
abbrev main_c_13 : Ref sig .tc := ⟨.hbm, 129, rfl⟩
abbrev main_c_14 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_v44 : Ref sig .tc := ⟨.hbm, 136, rfl⟩
abbrev main_c_15 : Ref sig .tc := ⟨.hbm, 137, rfl⟩
abbrev main_c_16 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v45 : Ref sig .tc := ⟨.hbm, 144, rfl⟩
abbrev main_c_17 : Ref sig .tc := ⟨.hbm, 145, rfl⟩
abbrev main_c_18 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_v46 : Ref sig .tc := ⟨.hbm, 152, rfl⟩
abbrev main_c_19 : Ref sig .tc := ⟨.hbm, 153, rfl⟩
abbrev main_c_20 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_v47 : Ref sig .tc := ⟨.hbm, 160, rfl⟩
abbrev main_c_21 : Ref sig .tc := ⟨.hbm, 161, rfl⟩
abbrev main_c_22 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_v48 : Ref sig .tc := ⟨.hbm, 168, rfl⟩
abbrev main_v49 : Ref sig .tc := ⟨.hbm, 169, rfl⟩
abbrev main_c_23 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_c_24 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_c_25 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_c_26 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_c_27 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_c_28 : Ref sig .tc := ⟨.hbm, 193, rfl⟩
abbrev main_v68 : Ref sig .tc := ⟨.hbm, 194, rfl⟩
abbrev main_v69 : Ref sig .tc := ⟨.hbm, 195, rfl⟩
abbrev main_v70 : Ref sig .tc := ⟨.hbm, 196, rfl⟩
abbrev main_v71 : Ref sig .tc := ⟨.hbm, 197, rfl⟩
abbrev main_c_29 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_c_30 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_c_31 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_c_32 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_c_33 : Ref sig .tc := ⟨.hbm, 218, rfl⟩
abbrev main_v88 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_call10_c : Ref sig .tc := ⟨.hbm, 226, rfl⟩
abbrev main_call10_v0 : Ref sig .tc := ⟨.hbm, 227, rfl⟩
abbrev main_call10_v1 : Ref sig .tc := ⟨.hbm, 228, rfl⟩
abbrev main_call10_c_0 : Ref sig .tc := ⟨.hbm, 229, rfl⟩
abbrev main_call10_v2 : Ref sig .tc := ⟨.hbm, 230, rfl⟩
abbrev main_call10_v3 : Ref sig .tc := ⟨.hbm, 231, rfl⟩
abbrev main_call10_v4 : Ref sig .tc := ⟨.hbm, 232, rfl⟩
abbrev main_call10_v5 : Ref sig .tc := ⟨.hbm, 233, rfl⟩
abbrev main_call10_c_1 : Ref sig .tc := ⟨.hbm, 234, rfl⟩
abbrev main_call10_c_2 : Ref sig .tc := ⟨.hbm, 235, rfl⟩
abbrev main_call10_v6 : Ref sig .tc := ⟨.hbm, 236, rfl⟩
abbrev main_call10_v7 : Ref sig .tc := ⟨.hbm, 237, rfl⟩
abbrev main_call10_v8 : Ref sig .tc := ⟨.hbm, 238, rfl⟩
abbrev main_call10_v9 : Ref sig .tc := ⟨.hbm, 239, rfl⟩
abbrev main_call10_v10 : Ref sig .tc := ⟨.hbm, 240, rfl⟩
abbrev main_call10_v11 : Ref sig .tc := ⟨.hbm, 241, rfl⟩
abbrev main_call10_c_3 : Ref sig .tc := ⟨.hbm, 242, rfl⟩
abbrev main_call10_v12 : Ref sig .tc := ⟨.hbm, 243, rfl⟩
abbrev main_call10_v13 : Ref sig .tc := ⟨.hbm, 244, rfl⟩
abbrev main_call10_cst : Ref sig .tc := ⟨.hbm, 245, rfl⟩
abbrev main_call10_v14 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_call11_c : Ref sig .tc := ⟨.hbm, 250, rfl⟩
abbrev main_call11_v0 : Ref sig .tc := ⟨.hbm, 251, rfl⟩
abbrev main_call11_v1 : Ref sig .tc := ⟨.hbm, 252, rfl⟩
abbrev main_call11_c_0 : Ref sig .tc := ⟨.hbm, 253, rfl⟩
abbrev main_call11_v2 : Ref sig .tc := ⟨.hbm, 254, rfl⟩
abbrev main_call11_v3 : Ref sig .tc := ⟨.hbm, 255, rfl⟩
abbrev main_call11_v4 : Ref sig .tc := ⟨.hbm, 256, rfl⟩
abbrev main_call11_v5 : Ref sig .tc := ⟨.hbm, 257, rfl⟩
abbrev main_call11_c_1 : Ref sig .tc := ⟨.hbm, 258, rfl⟩
abbrev main_call11_c_2 : Ref sig .tc := ⟨.hbm, 259, rfl⟩
abbrev main_call11_v6 : Ref sig .tc := ⟨.hbm, 260, rfl⟩
abbrev main_call11_v7 : Ref sig .tc := ⟨.hbm, 261, rfl⟩
abbrev main_call11_v8 : Ref sig .tc := ⟨.hbm, 262, rfl⟩
abbrev main_call11_v9 : Ref sig .tc := ⟨.hbm, 263, rfl⟩
abbrev main_call11_v10 : Ref sig .tc := ⟨.hbm, 264, rfl⟩
abbrev main_call11_v11 : Ref sig .tc := ⟨.hbm, 265, rfl⟩
abbrev main_call11_c_3 : Ref sig .tc := ⟨.hbm, 266, rfl⟩
abbrev main_call11_v12 : Ref sig .tc := ⟨.hbm, 267, rfl⟩
abbrev main_call11_v13 : Ref sig .tc := ⟨.hbm, 268, rfl⟩
abbrev main_call11_cst : Ref sig .tc := ⟨.hbm, 269, rfl⟩
abbrev main_call11_v14 : Ref sig .tc := ⟨.hbm, 270, rfl⟩
abbrev main_v98 : Ref sig .tc := ⟨.hbm, 271, rfl⟩
abbrev main_v99 : Ref sig .tc := ⟨.hbm, 272, rfl⟩
abbrev main_v100 : Ref sig .tc := ⟨.hbm, 273, rfl⟩
abbrev main_call12_c : Ref sig .tc := ⟨.hbm, 274, rfl⟩
abbrev main_call12_v0 : Ref sig .tc := ⟨.hbm, 275, rfl⟩
abbrev main_call12_v1 : Ref sig .tc := ⟨.hbm, 276, rfl⟩
abbrev main_call12_c_0 : Ref sig .tc := ⟨.hbm, 277, rfl⟩
abbrev main_call12_v2 : Ref sig .tc := ⟨.hbm, 278, rfl⟩
abbrev main_call12_v3 : Ref sig .tc := ⟨.hbm, 279, rfl⟩
abbrev main_call12_v4 : Ref sig .tc := ⟨.hbm, 280, rfl⟩
abbrev main_call12_v5 : Ref sig .tc := ⟨.hbm, 281, rfl⟩
abbrev main_call12_c_1 : Ref sig .tc := ⟨.hbm, 282, rfl⟩
abbrev main_call12_c_2 : Ref sig .tc := ⟨.hbm, 283, rfl⟩
abbrev main_call12_v6 : Ref sig .tc := ⟨.hbm, 284, rfl⟩
abbrev main_call12_v7 : Ref sig .tc := ⟨.hbm, 285, rfl⟩
abbrev main_call12_v8 : Ref sig .tc := ⟨.hbm, 286, rfl⟩
abbrev main_call12_v9 : Ref sig .tc := ⟨.hbm, 287, rfl⟩
abbrev main_call12_v10 : Ref sig .tc := ⟨.hbm, 288, rfl⟩
abbrev main_call12_v11 : Ref sig .tc := ⟨.hbm, 289, rfl⟩
abbrev main_call12_c_3 : Ref sig .tc := ⟨.hbm, 290, rfl⟩
abbrev main_call12_v12 : Ref sig .tc := ⟨.hbm, 291, rfl⟩
abbrev main_call12_v13 : Ref sig .tc := ⟨.hbm, 292, rfl⟩
abbrev main_call12_cst : Ref sig .tc := ⟨.hbm, 293, rfl⟩
abbrev main_call12_v14 : Ref sig .tc := ⟨.hbm, 294, rfl⟩
abbrev main_v101 : Ref sig .tc := ⟨.hbm, 295, rfl⟩
abbrev main_v102 : Ref sig .tc := ⟨.hbm, 296, rfl⟩
abbrev main_v103 : Ref sig .tc := ⟨.hbm, 297, rfl⟩
abbrev main_call13_c : Ref sig .tc := ⟨.hbm, 298, rfl⟩
abbrev main_call13_v0 : Ref sig .tc := ⟨.hbm, 299, rfl⟩
abbrev main_call13_v1 : Ref sig .tc := ⟨.hbm, 300, rfl⟩
abbrev main_call13_c_0 : Ref sig .tc := ⟨.hbm, 301, rfl⟩
abbrev main_call13_v2 : Ref sig .tc := ⟨.hbm, 302, rfl⟩
abbrev main_call13_v3 : Ref sig .tc := ⟨.hbm, 303, rfl⟩
abbrev main_call13_v4 : Ref sig .tc := ⟨.hbm, 304, rfl⟩
abbrev main_call13_v5 : Ref sig .tc := ⟨.hbm, 305, rfl⟩
abbrev main_call13_c_1 : Ref sig .tc := ⟨.hbm, 306, rfl⟩
abbrev main_call13_c_2 : Ref sig .tc := ⟨.hbm, 307, rfl⟩
abbrev main_call13_v6 : Ref sig .tc := ⟨.hbm, 308, rfl⟩
abbrev main_call13_v7 : Ref sig .tc := ⟨.hbm, 309, rfl⟩
abbrev main_call13_v8 : Ref sig .tc := ⟨.hbm, 310, rfl⟩
abbrev main_call13_v9 : Ref sig .tc := ⟨.hbm, 311, rfl⟩
abbrev main_call13_v10 : Ref sig .tc := ⟨.hbm, 312, rfl⟩
abbrev main_call13_v11 : Ref sig .tc := ⟨.hbm, 313, rfl⟩
abbrev main_call13_c_3 : Ref sig .tc := ⟨.hbm, 314, rfl⟩
abbrev main_call13_v12 : Ref sig .tc := ⟨.hbm, 315, rfl⟩
abbrev main_call13_v13 : Ref sig .tc := ⟨.hbm, 316, rfl⟩
abbrev main_call13_cst : Ref sig .tc := ⟨.hbm, 317, rfl⟩
abbrev main_call13_v14 : Ref sig .tc := ⟨.hbm, 318, rfl⟩
abbrev main_v104 : Ref sig .tc := ⟨.hbm, 319, rfl⟩
abbrev main_v105 : Ref sig .tc := ⟨.hbm, 320, rfl⟩
abbrev main_v106 : Ref sig .tc := ⟨.hbm, 321, rfl⟩
abbrev main_call14_c : Ref sig .tc := ⟨.hbm, 322, rfl⟩
abbrev main_call14_v0 : Ref sig .tc := ⟨.hbm, 323, rfl⟩
abbrev main_call14_v1 : Ref sig .tc := ⟨.hbm, 324, rfl⟩
abbrev main_call14_c_0 : Ref sig .tc := ⟨.hbm, 325, rfl⟩
abbrev main_call14_v2 : Ref sig .tc := ⟨.hbm, 326, rfl⟩
abbrev main_call14_v3 : Ref sig .tc := ⟨.hbm, 327, rfl⟩
abbrev main_call14_v4 : Ref sig .tc := ⟨.hbm, 328, rfl⟩
abbrev main_call14_v5 : Ref sig .tc := ⟨.hbm, 329, rfl⟩
abbrev main_call14_c_1 : Ref sig .tc := ⟨.hbm, 330, rfl⟩
abbrev main_call14_c_2 : Ref sig .tc := ⟨.hbm, 331, rfl⟩
abbrev main_call14_v6 : Ref sig .tc := ⟨.hbm, 332, rfl⟩
abbrev main_call14_v7 : Ref sig .tc := ⟨.hbm, 333, rfl⟩
abbrev main_call14_v8 : Ref sig .tc := ⟨.hbm, 334, rfl⟩
abbrev main_call14_v9 : Ref sig .tc := ⟨.hbm, 335, rfl⟩
abbrev main_call14_v10 : Ref sig .tc := ⟨.hbm, 336, rfl⟩
abbrev main_call14_v11 : Ref sig .tc := ⟨.hbm, 337, rfl⟩
abbrev main_call14_c_3 : Ref sig .tc := ⟨.hbm, 338, rfl⟩
abbrev main_call14_v12 : Ref sig .tc := ⟨.hbm, 339, rfl⟩
abbrev main_call14_v13 : Ref sig .tc := ⟨.hbm, 340, rfl⟩
abbrev main_call14_cst : Ref sig .tc := ⟨.hbm, 341, rfl⟩
abbrev main_call14_v14 : Ref sig .tc := ⟨.hbm, 342, rfl⟩
abbrev main_v107 : Ref sig .tc := ⟨.hbm, 343, rfl⟩
abbrev main_v108 : Ref sig .tc := ⟨.hbm, 344, rfl⟩
abbrev main_v109 : Ref sig .tc := ⟨.hbm, 345, rfl⟩
abbrev main_call15_c : Ref sig .tc := ⟨.hbm, 346, rfl⟩
abbrev main_call15_v0 : Ref sig .tc := ⟨.hbm, 347, rfl⟩
abbrev main_call15_v1 : Ref sig .tc := ⟨.hbm, 348, rfl⟩
abbrev main_call15_c_0 : Ref sig .tc := ⟨.hbm, 349, rfl⟩
abbrev main_call15_v2 : Ref sig .tc := ⟨.hbm, 350, rfl⟩
abbrev main_call15_v3 : Ref sig .tc := ⟨.hbm, 351, rfl⟩
abbrev main_call15_v4 : Ref sig .tc := ⟨.hbm, 352, rfl⟩
abbrev main_call15_v5 : Ref sig .tc := ⟨.hbm, 353, rfl⟩
abbrev main_call15_c_1 : Ref sig .tc := ⟨.hbm, 354, rfl⟩
abbrev main_call15_c_2 : Ref sig .tc := ⟨.hbm, 355, rfl⟩
abbrev main_call15_v6 : Ref sig .tc := ⟨.hbm, 356, rfl⟩
abbrev main_call15_v7 : Ref sig .tc := ⟨.hbm, 357, rfl⟩
abbrev main_call15_v8 : Ref sig .tc := ⟨.hbm, 358, rfl⟩
abbrev main_call15_v9 : Ref sig .tc := ⟨.hbm, 359, rfl⟩
abbrev main_call15_v10 : Ref sig .tc := ⟨.hbm, 360, rfl⟩
abbrev main_call15_v11 : Ref sig .tc := ⟨.hbm, 361, rfl⟩
abbrev main_call15_c_3 : Ref sig .tc := ⟨.hbm, 362, rfl⟩
abbrev main_call15_v12 : Ref sig .tc := ⟨.hbm, 363, rfl⟩
abbrev main_call15_v13 : Ref sig .tc := ⟨.hbm, 364, rfl⟩
abbrev main_call15_cst : Ref sig .tc := ⟨.hbm, 365, rfl⟩
abbrev main_call15_v14 : Ref sig .tc := ⟨.hbm, 366, rfl⟩
abbrev main_v110 : Ref sig .tc := ⟨.hbm, 367, rfl⟩
abbrev main_v111 : Ref sig .tc := ⟨.hbm, 368, rfl⟩
abbrev main_v112 : Ref sig .tc := ⟨.hbm, 369, rfl⟩
abbrev main_call16_c : Ref sig .tc := ⟨.hbm, 370, rfl⟩
abbrev main_call16_v0 : Ref sig .tc := ⟨.hbm, 371, rfl⟩
abbrev main_call16_v1 : Ref sig .tc := ⟨.hbm, 372, rfl⟩
abbrev main_call16_c_0 : Ref sig .tc := ⟨.hbm, 373, rfl⟩
abbrev main_call16_v2 : Ref sig .tc := ⟨.hbm, 374, rfl⟩
abbrev main_call16_v3 : Ref sig .tc := ⟨.hbm, 375, rfl⟩
abbrev main_call16_v4 : Ref sig .tc := ⟨.hbm, 376, rfl⟩
abbrev main_call16_v5 : Ref sig .tc := ⟨.hbm, 377, rfl⟩
abbrev main_call16_c_1 : Ref sig .tc := ⟨.hbm, 378, rfl⟩
abbrev main_call16_c_2 : Ref sig .tc := ⟨.hbm, 379, rfl⟩
abbrev main_call16_v6 : Ref sig .tc := ⟨.hbm, 380, rfl⟩
abbrev main_call16_v7 : Ref sig .tc := ⟨.hbm, 381, rfl⟩
abbrev main_call16_v8 : Ref sig .tc := ⟨.hbm, 382, rfl⟩
abbrev main_call16_v9 : Ref sig .tc := ⟨.hbm, 383, rfl⟩
abbrev main_call16_v10 : Ref sig .tc := ⟨.hbm, 384, rfl⟩
abbrev main_call16_v11 : Ref sig .tc := ⟨.hbm, 385, rfl⟩
abbrev main_call16_c_3 : Ref sig .tc := ⟨.hbm, 386, rfl⟩
abbrev main_call16_v12 : Ref sig .tc := ⟨.hbm, 387, rfl⟩
abbrev main_call16_v13 : Ref sig .tc := ⟨.hbm, 388, rfl⟩
abbrev main_call16_cst : Ref sig .tc := ⟨.hbm, 389, rfl⟩
abbrev main_call16_v14 : Ref sig .tc := ⟨.hbm, 390, rfl⟩
abbrev main_v113 : Ref sig .tc := ⟨.hbm, 391, rfl⟩
abbrev main_v114 : Ref sig .tc := ⟨.hbm, 392, rfl⟩
abbrev main_v115 : Ref sig .tc := ⟨.hbm, 393, rfl⟩
abbrev main_call17_c : Ref sig .tc := ⟨.hbm, 394, rfl⟩
abbrev main_call17_v0 : Ref sig .tc := ⟨.hbm, 395, rfl⟩
abbrev main_call17_v1 : Ref sig .tc := ⟨.hbm, 396, rfl⟩
abbrev main_call17_c_0 : Ref sig .tc := ⟨.hbm, 397, rfl⟩
abbrev main_call17_v2 : Ref sig .tc := ⟨.hbm, 398, rfl⟩
abbrev main_call17_v3 : Ref sig .tc := ⟨.hbm, 399, rfl⟩
abbrev main_call17_v4 : Ref sig .tc := ⟨.hbm, 400, rfl⟩
abbrev main_call17_v5 : Ref sig .tc := ⟨.hbm, 401, rfl⟩
abbrev main_call17_c_1 : Ref sig .tc := ⟨.hbm, 402, rfl⟩
abbrev main_call17_c_2 : Ref sig .tc := ⟨.hbm, 403, rfl⟩
abbrev main_call17_v6 : Ref sig .tc := ⟨.hbm, 404, rfl⟩
abbrev main_call17_v7 : Ref sig .tc := ⟨.hbm, 405, rfl⟩
abbrev main_call17_v8 : Ref sig .tc := ⟨.hbm, 406, rfl⟩
abbrev main_call17_v9 : Ref sig .tc := ⟨.hbm, 407, rfl⟩
abbrev main_call17_v10 : Ref sig .tc := ⟨.hbm, 408, rfl⟩
abbrev main_call17_v11 : Ref sig .tc := ⟨.hbm, 409, rfl⟩
abbrev main_call17_c_3 : Ref sig .tc := ⟨.hbm, 410, rfl⟩
abbrev main_call17_v12 : Ref sig .tc := ⟨.hbm, 411, rfl⟩
abbrev main_call17_v13 : Ref sig .tc := ⟨.hbm, 412, rfl⟩
abbrev main_call17_cst : Ref sig .tc := ⟨.hbm, 413, rfl⟩
abbrev main_call17_v14 : Ref sig .tc := ⟨.hbm, 414, rfl⟩
abbrev main_v116 : Ref sig .tc := ⟨.hbm, 415, rfl⟩
abbrev main_v117 : Ref sig .tc := ⟨.hbm, 416, rfl⟩
abbrev main_v118 : Ref sig .tc := ⟨.hbm, 417, rfl⟩
abbrev main_v119 : Ref sig .tc := ⟨.hbm, 418, rfl⟩
abbrev main_v120 : Ref sig .tc := ⟨.hbm, 419, rfl⟩
abbrev main_v121 : Ref sig .tc := ⟨.hbm, 420, rfl⟩
abbrev main_v122 : Ref sig .tc := ⟨.hbm, 421, rfl⟩
abbrev main_v123 : Ref sig .tc := ⟨.hbm, 422, rfl⟩
abbrev main_v124 : Ref sig .tc := ⟨.hbm, 423, rfl⟩
abbrev main_v125 : Ref sig .tc := ⟨.hbm, 424, rfl⟩
abbrev main_v126 : Ref sig .tc := ⟨.hbm, 425, rfl⟩
abbrev main_cst_34 : Ref sig .tc := ⟨.hbm, 426, rfl⟩
abbrev main_v127 : Ref sig .tc := ⟨.hbm, 427, rfl⟩
abbrev main_v128 : Ref sig .tc := ⟨.hbm, 428, rfl⟩
abbrev main_v129 : Ref sig .tc := ⟨.hbm, 429, rfl⟩
abbrev main_cst_35 : Ref sig .tc := ⟨.hbm, 430, rfl⟩
abbrev main_v130 : Ref sig .tc := ⟨.hbm, 431, rfl⟩
abbrev main_v131 : Ref sig .tc := ⟨.hbm, 432, rfl⟩
abbrev main_v132 : Ref sig .tc := ⟨.hbm, 433, rfl⟩
abbrev main_v133 : Ref sig .tc := ⟨.hbm, 434, rfl⟩
abbrev main_cst_36 : Ref sig .tc := ⟨.hbm, 435, rfl⟩
abbrev main_v134 : Ref sig .tc := ⟨.hbm, 436, rfl⟩
abbrev main_v135 : Ref sig .tc := ⟨.hbm, 437, rfl⟩
abbrev main_v136 : Ref sig .tc := ⟨.hbm, 438, rfl⟩
abbrev main_cst_37 : Ref sig .tc := ⟨.hbm, 439, rfl⟩
abbrev main_v137 : Ref sig .tc := ⟨.hbm, 440, rfl⟩
abbrev main_v138 : Ref sig .tc := ⟨.hbm, 441, rfl⟩
abbrev main_v139 : Ref sig .tc := ⟨.hbm, 442, rfl⟩
abbrev main_cst_38 : Ref sig .tc := ⟨.hbm, 443, rfl⟩
abbrev main_v140 : Ref sig .tc := ⟨.hbm, 444, rfl⟩
abbrev main_v141 : Ref sig .tc := ⟨.hbm, 445, rfl⟩
abbrev main_v142 : Ref sig .tc := ⟨.hbm, 446, rfl⟩
abbrev main_v143 : Ref sig .tc := ⟨.hbm, 447, rfl⟩
abbrev main_cst_39 : Ref sig .tc := ⟨.hbm, 448, rfl⟩
abbrev main_v144 : Ref sig .tc := ⟨.hbm, 449, rfl⟩
abbrev main_v145 : Ref sig .tc := ⟨.hbm, 450, rfl⟩
abbrev main_v146 : Ref sig .tc := ⟨.hbm, 451, rfl⟩
abbrev main_cst_40 : Ref sig .tc := ⟨.hbm, 452, rfl⟩
abbrev main_v147 : Ref sig .tc := ⟨.hbm, 453, rfl⟩
abbrev main_v148 : Ref sig .tc := ⟨.hbm, 454, rfl⟩
abbrev main_v149 : Ref sig .tc := ⟨.hbm, 455, rfl⟩
abbrev main_cst_41 : Ref sig .tc := ⟨.hbm, 456, rfl⟩
abbrev main_v150 : Ref sig .tc := ⟨.hbm, 457, rfl⟩
abbrev main_v151 : Ref sig .tc := ⟨.hbm, 458, rfl⟩
abbrev main_cst_42 : Ref sig .tc := ⟨.hbm, 459, rfl⟩
abbrev main_v152 : Ref sig .tc := ⟨.hbm, 460, rfl⟩
abbrev main_v153 : Ref sig .tc := ⟨.hbm, 461, rfl⟩
abbrev main_v154 : Ref sig .tc := ⟨.hbm, 462, rfl⟩
abbrev main_v155 : Ref sig .tc := ⟨.hbm, 463, rfl⟩
abbrev main_cst_43 : Ref sig .tc := ⟨.hbm, 464, rfl⟩
abbrev main_v156 : Ref sig .tc := ⟨.hbm, 465, rfl⟩
abbrev main_v157 : Ref sig .tc := ⟨.hbm, 466, rfl⟩
abbrev main_cst_44 : Ref sig .tc := ⟨.hbm, 467, rfl⟩
abbrev main_v158 : Ref sig .tc := ⟨.hbm, 468, rfl⟩
abbrev main_v159 : Ref sig .tc := ⟨.hbm, 469, rfl⟩
abbrev main_v160 : Ref sig .tc := ⟨.hbm, 470, rfl⟩
abbrev main_cst_45 : Ref sig .tc := ⟨.hbm, 471, rfl⟩
abbrev main_v161 : Ref sig .tc := ⟨.hbm, 472, rfl⟩
abbrev main_v162 : Ref sig .tc := ⟨.hbm, 473, rfl⟩
abbrev main_v163 : Ref sig .tc := ⟨.hbm, 474, rfl⟩
abbrev main_v164 : Ref sig .tc := ⟨.hbm, 475, rfl⟩
abbrev main_v165 : Ref sig .tc := ⟨.hbm, 476, rfl⟩
abbrev main_v166 : Ref sig .tc := ⟨.hbm, 477, rfl⟩
abbrev main_v167 : Ref sig .tc := ⟨.hbm, 478, rfl⟩
abbrev main_v168 : Ref sig .tc := ⟨.hbm, 479, rfl⟩
abbrev main_v169 : Ref sig .tc := ⟨.hbm, 480, rfl⟩
abbrev main_v170 : Ref sig .tc := ⟨.hbm, 481, rfl⟩
abbrev main_v171 : Ref sig .tc := ⟨.hbm, 482, rfl⟩
abbrev main_v172 : Ref sig .tc := ⟨.hbm, 483, rfl⟩
abbrev main_v173 : Ref sig .tc := ⟨.hbm, 484, rfl⟩
abbrev main_v174 : Ref sig .tc := ⟨.hbm, 485, rfl⟩
abbrev main_v175 : Ref sig .tc := ⟨.hbm, 486, rfl⟩
abbrev main_v176 : Ref sig .tc := ⟨.hbm, 487, rfl⟩
abbrev main_v177 : Ref sig .tc := ⟨.hbm, 488, rfl⟩
abbrev main_v178 : Ref sig .tc := ⟨.hbm, 489, rfl⟩
abbrev main_v179 : Ref sig .tc := ⟨.hbm, 490, rfl⟩

abbrev nD : Nat := 1
abbrev τ : Topo := Topo.v7x

variable {F : FTy → Type} [FloatOps F]
-- ==== Proof.Spec.lean ====
/-
  What the kernel computes at one voxel, as functions of one element at a time, over any float instance.

  A voxel is named by a word `n`, its position in the flattened volume. Its three coordinates are read off the bits of
  `n`; each is displaced by a float and moved by one (the volume is padded by one element on each side). The eight
  corners of the cell around the displaced point are looked up in a table of 130 × 130 × 130 elements, and their
  weighted sum is the result.
-/
module

public import Idealize.ShloMosaic.Rules
public import Idealize.ShloMosaic.PureOps

@[expose] public section

noncomputable section

namespace Cert.Proof.Spec

open Idealize.ShloMosaic

variable {F : FTy → Type} [FloatOps F]

/-- The number one. -/
def one : F .f32 := Scalar.ofBits .f32 0x3F800000#32

/-- A coordinate: the displacement, plus the voxel's own integer coordinate, plus one for the padding. -/
def pos (d : F .f32) (k : BitVec 32) : F .f32 :=
  FloatOps.addf (FloatOps.addf d (FloatOps.sitofp .f32 k)) one

/-- The kernel's floor: convert to an integer, and take one away where that came out above the number. -/
def floorWord (x : F .f32) : BitVec 32 :=
  Scalar.select (FloatOps.cmpf .ogt (FloatOps.sitofp .f32 (FloatOps.fptosi 32 x)) x)
    (IntOp.subi (FloatOps.fptosi 32 x) 1#32) (FloatOps.fptosi 32 x)

/-- A word clipped, as a signed number, to the padded volume's coordinates 0 … 129. -/
def clip (w : BitVec 32) : BitVec 32 := IntOp.minsi (IntOp.maxsi w 0#32) 129#32

/-- The lower corner's coordinate at `x`. -/
def lo (x : F .f32) : BitVec 32 := clip (floorWord x)

/-- The upper corner's coordinate at `x`. -/
def hi (x : F .f32) : BitVec 32 := clip (IntOp.addi (floorWord x) 1#32)

/-- The weight at `x`: how far the upper corner lies above it. -/
def wgt (x : F .f32) : F .f32 := FloatOps.subf (FloatOps.sitofp .f32 (hi x)) x

/-- The voxel's coordinates, from its position in the flattened volume. -/
def meshX (n : BitVec 32) : BitVec 32 := IntOp.andi (IntOp.shrui .vector n 7#32) 127#32
def meshY (n : BitVec 32) : BitVec 32 := IntOp.shrui .vector n 14#32
def meshZ (n : BitVec 32) : BitVec 32 := IntOp.andi n 127#32

/-- The position in the flattened padded volume of the corner `(y, x, z)`. -/
def cell (y x z : BitVec 32) : BitVec 32 := IntOp.addi (IntOp.addi (IntOp.muli y 16900#32) (IntOp.muli x 130#32)) z

/-- The same for an upper `z`: the lower corner's position moved by the difference of the two. -/
def cellUp (y x z z' : BitVec 32) : BitVec 32 := IntOp.addi (cell y x z) (IntOp.subi z' z)

/-- The eight corners' positions, for displaced coordinates `x`, `y`, `z`. -/
def idx (x y z : F .f32) : Fin 8 → BitVec 32
  | 0 => cell (lo y) (lo x) (lo z)
  | 1 => cell (hi y) (lo x) (lo z)
  | 2 => cell (lo y) (hi x) (lo z)
  | 3 => cell (hi y) (hi x) (lo z)
  | 4 => cellUp (lo y) (lo x) (lo z) (hi z)
  | 5 => cellUp (hi y) (lo x) (lo z) (hi z)
  | 6 => cellUp (lo y) (hi x) (lo z) (hi z)
  | 7 => cellUp (hi y) (hi x) (lo z) (hi z)

/-- One minus a weight. -/
def co (w : F .f32) : F .f32 := FloatOps.subf one w

/-- The eight corners' weights, from the three coordinates' weights. -/
def wts (wx wy wz : F .f32) : Fin 8 → F .f32
  | 0 => FloatOps.mulf (FloatOps.mulf wz wx) wy
  | 1 => FloatOps.mulf (FloatOps.mulf wz wx) (co wy)
  | 2 => FloatOps.mulf (FloatOps.mulf wz (co wx)) wy
  | 3 => FloatOps.mulf (FloatOps.mulf wz (co wx)) (co wy)
  | 4 => FloatOps.mulf (FloatOps.mulf (co wz) wx) wy
  | 5 => FloatOps.mulf (FloatOps.mulf (co wz) wx) (co wy)
  | 6 => FloatOps.mulf (FloatOps.mulf (co wz) (co wx)) wy
  | 7 => FloatOps.mulf (FloatOps.mulf (co wz) (co wx)) (co wy)

/-- A sum of eight products, added from the left. -/
def dot8 (w t : Fin 8 → F .f32) : F .f32 :=
  FloatOps.addf (FloatOps.addf (FloatOps.addf (FloatOps.addf (FloatOps.addf (FloatOps.addf (FloatOps.addf
    (FloatOps.mulf (w 0) (t 0)) (FloatOps.mulf (w 1) (t 1))) (FloatOps.mulf (w 2) (t 2))) (FloatOps.mulf (w 3) (t 3)))
    (FloatOps.mulf (w 4) (t 4))) (FloatOps.mulf (w 5) (t 5))) (FloatOps.mulf (w 6) (t 6))) (FloatOps.mulf (w 7) (t 7))

/-- The interpolated value at a voxel: displacements `dx`, `dy`, `dz`, position `n`, table `T`. -/
def voxel (T : BitVec 32 → F .f32) (dx dy dz : F .f32) (n : BitVec 32) : F .f32 :=
  dot8 (wts (wgt (pos dx (meshX n))) (wgt (pos dy (meshY n))) (wgt (pos dz (meshZ n))))
    fun c => T (idx (pos dx (meshX n)) (pos dy (meshY n)) (pos dz (meshZ n)) c)

/-! ## The corners' positions lie in the table -/

theorem clip_lt (w : BitVec 32) : (clip w).toNat < 130 := by
  unfold clip IntOp.minsi IntOp.maxsi
  simp only [BitVec.slt_eq_decide, decide_eq_true_eq]
  by_cases h : (0#32).toInt < w.toInt
  · rw [if_pos h]
    by_cases h' : w.toInt < (129#32).toInt
    · rw [if_pos h']
      simp only [BitVec.toInt_eq_toNat_cond, BitVec.toNat_ofNat, Nat.reducePow, Nat.reduceMod] at h h'
      split at h' <;> omega
    · rw [if_neg h']; decide
  · rw [if_neg h]; decide

theorem cell_toNat {y x z : BitVec 32} (hy : y.toNat < 130) (hx : x.toNat < 130) (hz : z.toNat < 130) :
    (cell y x z).toNat = y.toNat * 16900 + x.toNat * 130 + z.toNat := by
  simp only [cell, IntOp.addi, IntOp.muli, BitVec.toNat_add, BitVec.toNat_mul, BitVec.toNat_ofNat]
  omega

theorem cellUp_eq (y x z z' : BitVec 32) : cellUp y x z z' = cell y x z' := by
  simp only [cellUp, cell, IntOp.addi, IntOp.subi]
  rw [BitVec.add_assoc, BitVec.add_comm z, BitVec.sub_add_cancel]

theorem cell_lt {y x z : BitVec 32} (hy : y.toNat < 130) (hx : x.toNat < 130) (hz : z.toNat < 130) :
    (cell y x z).toNat < 2197000 := by
  rw [cell_toNat hy hx hz]; omega

/-- Every corner's position is one of the table's 130³ elements, whatever the displacements are. -/
theorem idx_lt (x y z : F .f32) (c : Fin 8) : (idx x y z c).toNat < 2197000 := by
  fin_cases c <;> simp only [idx, cellUp_eq] <;> exact cell_lt (clip_lt _) (clip_lt _) (clip_lt _)

end Cert.Proof.Spec

end
-- ==== Proof.Floor.lean ====
/-
  The two ways of taking the floor of a coordinate, over the extended reals.

  The kernel converts to a 32-bit integer and takes one away where that came out above the number; the reference rounds
  down and converts. The conversion ends at the ends of the integers' range. So the two agree except below that range,
  where the kernel's subtraction goes round to the greatest integer. There, after the clipping, the kernel's lower corner
  is the last of the padded volume's coordinates and the reference's the first, and both lie in the padding.
-/
module

public import Idealize.ShloMosaic.PureOps.Ideal
public import proofs.«01_k».proof.Proof.Spec

@[expose] public section

noncomputable section

namespace Cert.Proof.Floor

open Idealize.ShloMosaic
open Cert.Proof.Spec

/-- The reference's floor. -/
def floorRef {F : FTy → Type} [FloatOps F] (x : F .f32) : BitVec 32 := FloatOps.fptosi 32 (FloatOps.hostUnary .floor x)

/-- The kernel's floor, with the conversion's result named. -/
theorem floorWord_eq (x : Ideal .f32) (t : BitVec 32) (ht : Ideal.fptosi 32 x = t) :
    floorWord x = if x < (((t.toInt : ℝ) : EReal)) then t - 1#32 else t := by
  unfold floorWord
  change Scalar.select (Ideal.cmp .ogt (((Ideal.fptosi 32 x).toInt : ℝ) : EReal) x) (IntOp.subi (Ideal.fptosi 32 x) 1#32) (Ideal.fptosi 32 x) = _
  rw [ht]
  unfold Ideal.cmp Scalar.select IntOp.subi
  by_cases h : x < (((t.toInt : ℝ) : EReal))
  · simp [h]
  · simp [h]

theorem toInt_ofInt {a : ℤ} (h1 : -2147483648 ≤ a) (h2 : a < 2147483648) : (BitVec.ofInt 32 a).toInt = a := by
  rw [BitVec.toInt_ofInt]
  exact Int.bmod_eq_of_le (by norm_num; omega) (by norm_num; omega)

/-- The kernel's floor is the reference's; or the number lies below the integers' range, and the kernel's floor is the
    greatest integer and the reference's the least. -/
theorem floor_cases (x : Ideal .f32) :
    floorWord x = floorRef x ∨ (floorWord x = 0x7FFFFFFF#32 ∧ floorRef x = 0x80000000#32) := by
  unfold floorRef
  change floorWord x = Ideal.fptosi 32 (Ideal.liftRound Int.floor x) ∨ (_ ∧ Ideal.fptosi 32 (Ideal.liftRound Int.floor x) = _)
  change EReal at x
  induction x with
  | bot =>
    right
    refine ⟨?_, by decide⟩
    rw [floorWord_eq _ 0x80000000#32 (by decide), if_pos (EReal.bot_lt_coe _)]
    decide
  | top =>
    left
    rw [floorWord_eq _ 0x7FFFFFFF#32 (by decide), if_neg (not_lt.mpr le_top)]
    decide
  | coe r =>
    have hf : Ideal.fptosi 32 ((r : ℝ) : EReal) = BitVec.ofInt 32 (max (-2147483648) (min 2147483647 (if 0 ≤ r then ⌊r⌋ else ⌈r⌉))) := rfl
    have hg : Ideal.fptosi 32 (Ideal.liftRound Int.floor ((r : ℝ) : EReal)) = BitVec.ofInt 32 (max (-2147483648) (min 2147483647 ⌊r⌋)) := by
      show BitVec.ofInt 32 (max (-2147483648) (min 2147483647 (if 0 ≤ ((⌊r⌋ : ℤ) : ℝ) then ⌊((⌊r⌋ : ℤ) : ℝ)⌋ else ⌈((⌊r⌋ : ℤ) : ℝ)⌉))) = _
      rw [Int.floor_intCast, Int.ceil_intCast, ite_self]
    rw [hg, floorWord_eq _ _ hf]
    set t : ℤ := max (-2147483648) (min 2147483647 (if 0 ≤ r then ⌊r⌋ else ⌈r⌉)) with htdef
    rw [toInt_ofInt (by omega) (by omega)]
    simp only [EReal.coe_lt_coe_iff]
    have hfl := Int.floor_le r
    have hlt := Int.lt_floor_add_one r
    by_cases h0 : 0 ≤ r
    · left
      rw [if_pos h0] at htdef
      have : ((t : ℤ) : ℝ) ≤ r := le_trans (Int.cast_le.mpr (by have := Int.floor_nonneg.mpr h0; omega)) hfl
      rw [if_neg (not_lt.mpr this), htdef]
    · rw [if_neg h0] at htdef
      have hc0 : ⌈r⌉ ≤ 0 := Int.ceil_le.mpr (by push_cast; linarith)
      have hcf : ⌈r⌉ ≤ ⌊r⌋ + 1 := Int.ceil_le_floor_add_one r
      have hfc : ⌊r⌋ ≤ ⌈r⌉ := Int.floor_le_ceil r
      have hle : r ≤ ((⌈r⌉ : ℤ) : ℝ) := Int.le_ceil r
      by_cases hlow : -2147483648 ≤ ⌊r⌋
      · left
        have ht : t = ⌈r⌉ := by omega
        rw [ht]
        by_cases hr : r < ((⌈r⌉ : ℤ) : ℝ)
        · rw [if_pos hr]
          have : ⌊r⌋ < ⌈r⌉ := by
            exact_mod_cast lt_of_le_of_lt hfl hr
          rw [show max (-2147483648) (min 2147483647 ⌊r⌋) = ⌈r⌉ - 1 by omega]
          apply BitVec.eq_of_toInt_eq
          rw [BitVec.toInt_sub, toInt_ofInt (by omega) (by omega), toInt_ofInt (by omega) (by omega)]
          exact Int.bmod_eq_of_le (by norm_num; omega) (by norm_num; omega)
        · rw [if_neg hr]
          have he : r = ((⌈r⌉ : ℤ) : ℝ) := le_antisymm hle (not_lt.mp hr)
          have : ⌈r⌉ ≤ ⌊r⌋ := Int.le_floor.mpr he.ge
          rw [show max (-2147483648) (min 2147483647 ⌊r⌋) = ⌈r⌉ by omega]
      · right
        have ht : t = -2147483648 := by omega
        rw [ht]
        have : r < (((-2147483648 : ℤ)) : ℝ) := Int.floor_lt.mp (by omega)
        rw [if_pos this, show max (-2147483648) (min 2147483647 ⌊r⌋) = -2147483648 by omega]
        exact ⟨by decide, by decide⟩

/-- Two coordinates are alike when they are the same, or both are in the padding. -/
def Alike (a b : BitVec 32) : Prop := a = b ∨ ((a = 0#32 ∨ a = 129#32) ∧ (b = 0#32 ∨ b = 129#32))

/-- The upper corners' coordinates are the same, -/
theorem hi_eq (x : Ideal .f32) : hi x = clip (floorRef x + 1#32) := by
  unfold hi
  rcases floor_cases x with h | ⟨h, h'⟩
  · rw [h]; rfl
  · rw [h, h']; decide

/-- and the lower corners' alike. -/
theorem lo_alike (x : Ideal .f32) : Alike (lo x) (clip (floorRef x)) := by
  unfold lo
  rcases floor_cases x with h | ⟨h, h'⟩
  · rw [h]; exact Or.inl rfl
  · rw [h, h']; exact Or.inr ⟨by decide, by decide⟩

end Cert.Proof.Floor

end
-- ==== Proof.Volume.lean ====
/-
  The padded volume: one element of zeros on each side of every axis. Its entries by coordinates, its positions in a line,
  and the words that count them.
-/
module

public import Idealize.ShloMosaic.Lib.KernelVsHost
public import Idealize.ShloMosaic.Lib.ValueIdxCore
public import proofs.«01_k».proof.Proof.Floor

@[expose] public section

noncomputable section

namespace Cert.Proof.Volume

open Idealize.ShloMosaic Idealize.ShloMosaic.ValueIdx
open Cert.Proof.Spec Cert.Proof.Floor

variable {F : FTy → Type} [FloatOps F]

/-- Both channels of the field, -/
abbrev Field : Shape := ⟨5, ![1, 2, 128, 128, 128]⟩

/-- and the same padded. -/
abbrev Padded : Shape := ⟨5, ![1, 2, 130, 130, 130]⟩

/-- One displacement for each voxel. -/
abbrev Grid : Shape := ⟨4, ![1, 128, 128, 128]⟩

/-- The field with zeros around it. -/
def padded (X : FVec F Field .f32) : FVec F Padded .f32 :=
  pad Padded ![0, 0, 1, 1, 1] ![0, 0, 1, 1, 1] ![0, 0, 0, 0, 0] X (sitofp .f32 (constantI ⟨0, ![]⟩ 32 0#32)) (by decide) (by decide)

/-- A word as one of the padded volume's coordinates. -/
def coord (w : BitVec 32) : Fin 130 := ⟨w.toNat % 130, Nat.mod_lt _ (by decide)⟩

theorem coord_val {w : BitVec 32} (h : w.toNat < 130) : (coord w).val = w.toNat := Nat.mod_eq_of_lt h

/-- The padded field's entry at channel `c` and coordinates `y`, `x`, `z`. -/
def entry (X : FVec F Field .f32) (c : Fin 2) (y x z : BitVec 32) : F .f32 := padded X (ix5 0 c (coord y) (coord x) (coord z))

/-- The number the padding is made of. -/
def blank : F .f32 := FloatOps.sitofp .f32 0#32

theorem padded_edge (X : FVec F Field .f32) (j : Padded.Idx) (a : Fin 5) (h2 : 2 ≤ a.val) (ha : (j a).val = 0 ∨ (j a).val = 129) :
    padded X j = blank := by
  unfold padded
  refine (pad_apply_of_not_inside _ _ _ _ _ _ _ j a ?_).trans rfl
  rintro ⟨h1, -, h3⟩
  change (![0, 0, 1, 1, 1] : Fin 5 → ℕ) a ≤ (j a).val at h1
  change ((j a).val - (![0, 0, 1, 1, 1] : Fin 5 → ℕ) a) / ((![0, 0, 0, 0, 0] : Fin 5 → ℕ) a + 1) < (![1, 2, 128, 128, 128] : Fin 5 → ℕ) a at h3
  match a, h2 with
  | ⟨2, _⟩, _ => change 1 ≤ _ at h1; change (_ - 1) / (0 + 1) < 128 at h3; omega
  | ⟨3, _⟩, _ => change 1 ≤ _ at h1; change (_ - 1) / (0 + 1) < 128 at h3; omega
  | ⟨4, _⟩, _ => change 1 ≤ _ at h1; change (_ - 1) / (0 + 1) < 128 at h3; omega

theorem coord_edge {w : BitVec 32} (h : w = 0#32 ∨ w = 129#32) : (coord w).val = 0 ∨ (coord w).val = 129 := by
  rcases h with rfl | rfl
  · exact Or.inl (by decide)
  · exact Or.inr (by decide)

/-- At coordinates that are alike, the padded field has the same entries. -/
theorem entry_alike (X : FVec F Field .f32) (c : Fin 2) {y y' x x' z z' : BitVec 32} (hy : Alike y y') (hx : Alike x x') (hz : Alike z z') :
    entry X c y x z = entry X c y' x' z' := by
  have ey : entry X c y x z = entry X c y' x z := by
    rcases hy with rfl | ⟨h, h'⟩
    · rfl
    · exact (padded_edge X _ 2 (by decide) (coord_edge h)).trans (padded_edge X _ 2 (by decide) (coord_edge h')).symm
  have ex : entry X c y' x z = entry X c y' x' z := by
    rcases hx with rfl | ⟨h, h'⟩
    · rfl
    · exact (padded_edge X _ 3 (by decide) (coord_edge h)).trans (padded_edge X _ 3 (by decide) (coord_edge h')).symm
  have ez : entry X c y' x' z = entry X c y' x' z' := by
    rcases hz with rfl | ⟨h, h'⟩
    · rfl
    · exact (padded_edge X _ 4 (by decide) (coord_edge h)).trans (padded_edge X _ 4 (by decide) (coord_edge h')).symm
  exact ey.trans (ex.trans ez)

/-! ## Positions -/

/-- The place of position `n` among the voxels. -/
def vox (n : Fin 2097152) : Grid.Idx :=
  ix4 0 ⟨n.val / 16384, by omega⟩ ⟨n.val / 128 % 128, by omega⟩ ⟨n.val % 128, by omega⟩

/-- The position of an entry in the padded field, both channels in one line. -/
def spot (b y x z : BitVec 32) : BitVec 32 := IntOp.addi (IntOp.addi (IntOp.addi b (IntOp.muli y 16900#32)) (IntOp.muli x 130#32)) z

/-- Where channel `c` starts in that line. -/
def base (c : Fin 2) : BitVec 32 := IntOp.muli (BitVec.ofNat 32 c.val) 2197000#32

theorem spot_toNat (c : Fin 2) {y x z : BitVec 32} (hy : y.toNat < 130) (hx : x.toNat < 130) (hz : z.toNat < 130) :
    (spot (base c) y x z).toNat = c.val * 2197000 + y.toNat * 16900 + x.toNat * 130 + z.toNat := by
  have hc := c.isLt
  have hb : (base c).toNat = c.val * 2197000 := by
    match c with
    | 0 => decide
    | 1 => decide
  rw [show spot (base c) y x z = base c + cell y x z by
    simp only [spot, cell, IntOp.addi, IntOp.muli, BitVec.add_assoc], BitVec.toNat_add, hb, cell_toNat hy hx hz,
    Nat.mod_eq_of_lt (by omega)]
  omega

theorem spot_lt (c : Fin 2) {y x z : BitVec 32} (hy : y.toNat < 130) (hx : x.toNat < 130) (hz : z.toNat < 130) :
    (spot (base c) y x z).toNat < 4394000 := by
  have hc := c.isLt
  rw [spot_toNat c hy hx hz]; omega

/-! ## A voxel's own coordinates -/

theorem meshY_ofNat {n : ℕ} (h : n < 2097152) : meshY (BitVec.ofNat 32 n) = BitVec.ofNat 32 (n / 16384) := by
  apply BitVec.eq_of_toNat_eq
  unfold meshY IntOp.shrui
  rw [if_pos (by decide)]
  show ((BitVec.ofNat 32 n) >>> 14).toNat = _
  rw [BitVec.toNat_ushiftRight, BitVec.toNat_ofNat, BitVec.toNat_ofNat, Nat.shiftRight_eq_div_pow]
  simp only [BitVec.toNat_ofNat, Nat.reducePow, Nat.reduceMod]
  omega

theorem meshX_ofNat {n : ℕ} (h : n < 2097152) : meshX (BitVec.ofNat 32 n) = BitVec.ofNat 32 (n / 128 % 128) := by
  apply BitVec.eq_of_toNat_eq
  unfold meshX IntOp.shrui IntOp.andi
  rw [if_pos (by decide)]
  show (((BitVec.ofNat 32 n) >>> 7) &&& 127#32).toNat = _
  rw [BitVec.toNat_and, BitVec.toNat_ushiftRight, BitVec.toNat_ofNat, BitVec.toNat_ofNat, Nat.shiftRight_eq_div_pow]
  simp only [BitVec.toNat_ofNat, Nat.reducePow, Nat.reduceMod]
  rw [show (127 : ℕ) = 2 ^ 7 - 1 by norm_num, Nat.and_two_pow_sub_one_eq_mod]
  omega

theorem meshZ_ofNat {n : ℕ} (h : n < 2097152) : meshZ (BitVec.ofNat 32 n) = BitVec.ofNat 32 (n % 128) := by
  apply BitVec.eq_of_toNat_eq
  unfold meshZ IntOp.andi
  rw [BitVec.toNat_and, BitVec.toNat_ofNat, BitVec.toNat_ofNat]
  simp only [BitVec.toNat_ofNat, Nat.reducePow, Nat.reduceMod]
  rw [show (127 : ℕ) = 2 ^ 7 - 1 by norm_num, Nat.and_two_pow_sub_one_eq_mod]
  omega

/-! ## Clipping, and which corner is which -/

theorem maxsi_comm (v w : BitVec 32) : IntOp.maxsi v w = IntOp.maxsi w v := by
  unfold IntOp.maxsi
  simp only [BitVec.slt_eq_decide, decide_eq_true_eq]
  rcases lt_trichotomy v.toInt w.toInt with h | h | h
  · rw [if_neg (by omega), if_pos h]
  · rw [BitVec.eq_of_toInt_eq h]
  · rw [if_pos h, if_neg (by omega)]

theorem minsi_comm (v w : BitVec 32) : IntOp.minsi v w = IntOp.minsi w v := by
  unfold IntOp.minsi
  simp only [BitVec.slt_eq_decide, decide_eq_true_eq]
  rcases lt_trichotomy v.toInt w.toInt with h | h | h
  · rw [if_pos h, if_neg (by omega)]
  · rw [BitVec.eq_of_toInt_eq h]
  · rw [if_neg (by omega), if_pos h]

/-- The bounds may be taken in the other order. -/
theorem clip_swap (w : BitVec 32) : IntOp.minsi 129#32 (IntOp.maxsi 0#32 w) = clip w := by
  rw [minsi_comm, maxsi_comm]; rfl

/-- The upper of two coordinates, or the lower. -/
def pick {α : Type} (up : Bool) (l u : α) : α := if up then u else l

/-- Corner `c` is the upper one along `y`, `x`, `z`: -/
def upY (c : Fin 8) : Bool := c.val % 2 = 1
def upX (c : Fin 8) : Bool := c.val / 2 % 2 = 1
def upZ (c : Fin 8) : Bool := c.val / 4 = 1

theorem idx_eq (x y z : F .f32) (c : Fin 8) :
    idx x y z c = cell (pick (upY c) (lo y) (hi y)) (pick (upX c) (lo x) (hi x)) (pick (upZ c) (lo z) (hi z)) := by
  fin_cases c <;> simp only [idx, cellUp_eq] <;> rfl

/-- The reference's lower and upper coordinate, -/
def loRef (x : F .f32) : BitVec 32 := clip (floorRef x)
def hiRef (x : F .f32) : BitVec 32 := clip (IntOp.addi (floorRef x) 1#32)

/-- alike to the kernel's. -/
theorem pick_alike (up : Bool) (x : Ideal .f32) : Alike (pick up (lo x) (hi x)) (pick up (loRef x) (hiRef x)) := by
  cases up
  · exact lo_alike x
  · exact Or.inl (hi_eq x)

theorem pick_lt (up : Bool) (x : F .f32) : (pick up (lo x) (hi x)).toNat < 130 := by
  cases up <;> exact clip_lt _

theorem pickRef_lt (up : Bool) (x : F .f32) : (pick up (loRef x) (hiRef x)).toNat < 130 := by
  cases up <;> exact clip_lt _

end Cert.Proof.Volume

end
-- ==== Proof.Lanes.lean ====
/-
  A buffer of 4096 elements filled sixteen at a time: what it holds after some of the stores, and what a load of the
  next sixteen reads.
-/
module

public import Idealize.ShloMosaic.Rules

@[expose] public section

noncomputable section

namespace Cert.Proof.Lanes

open Idealize.ShloMosaic

/-- A one-dimensional shape. -/
abbrev Line (n : ℕ) : Shape := ⟨1, ![n]⟩

variable {sig : RefSig} {κ : Kind} {sp : Space} {e : EltTy} {Val : EltTy → Type} {α : Type}

/-- Position `i` of a line. -/
def pt {n : ℕ} (i : ℕ) (h : i < n) : (Line n).Idx := fun a => ⟨i, by obtain rfl : a = 0 := Subsingleton.elim _ _; exact h⟩

theorem pt_val {n i : ℕ} (h : i < n) (a : Fin 1) : (pt (n := n) i h a).val = i := rfl

theorem eq_pt {n : ℕ} (j : (Line n).Idx) : j = pt (j 0).val (j 0).isLt := by
  funext a; obtain rfl : a = 0 := Subsingleton.elim _ _; rfl

/-- Position `16 k + l` of the buffer, for lane `l` of trip `k`. -/
def lane (k : Fin 256) (l : (Line 16).Idx) : (Line 4096).Idx :=
  pt (16 * k.val + (l 0).val) (by have := k.isLt; have : (l 0).val < 16 := (l 0).isLt; omega)

/-- The buffer after `k` trips: the first `16 k` elements are the new ones, the rest the old ones. -/
def mix (k : ℕ) (G f : (Line 4096).Idx → α) : (Line 4096).Idx → α := fun j => if (j 0).val < 16 * k then G j else f j

/-- Before the first trip every element is the old one; -/
theorem mix_zero (G f : (Line 4096).Idx → α) : mix 0 G f = f := by
  funext j; unfold mix; rw [if_neg (by omega)]

/-- after the last, every element is the new one. -/
theorem mix_last (G f : (Line 4096).Idx → α) : mix 256 G f = G := by
  funext j; unfold mix; rw [if_pos]; have : (j 0).val < 4096 := (j 0).isLt; omega

/-- The sixteen elements trip `k` is about to write are still the old ones. -/
theorem mix_lane (k : Fin 256) (G f : (Line 4096).Idx → α) (l : (Line 16).Idx) : mix k.val G f (lane k l) = f (lane k l) := by
  unfold mix; rw [if_neg]; show ¬ (16 * k.val + (l 0).val < 16 * k.val); omega

variable (v : View sig κ sp (Line 4096) e)

theorem emb_lane {off : Fin 1 → ℕ} {k : Fin 256} (ho : off 0 = 16 * k.val) (inb : ∀ a, off a + (Line 16).size a ≤ (Line 4096).size a)
    (l : (Line 16).Idx) : (Rect.unit (s := Line 4096) off (Line 16).size inb).emb l = lane k l := by
  funext a; obtain rfl : a = 0 := Subsingleton.elim _ _
  apply Fin.ext; rw [Rect.emb_apply]
  show off 0 + 1 * (l 0).val = 16 * k.val + (l 0).val
  omega

/-- A load of trip `k`'s sixteen elements reads them lane by lane. -/
theorem read_lane {off : Fin 1 → ℕ} {k : Fin 256} (ho : off 0 = 16 * k.val) (inb : ∀ a, off a + (Line 16).size a ≤ (Line 4096).size a)
    (f : v.ty.Contents Val) (l : (Line 16).Idx) :
    (v.slice (Rect.unit (s := Line 4096) off (Line 16).size inb)).read Val f l = v.read Val f (lane k l) := by
  rw [View.read_apply, View.read_apply, View.emb_slice, Function.Embedding.trans_apply]
  exact congrArg (fun i => _root_.cast _ (f (v.emb i))) (emb_lane ho inb l)

/-- A store of trip `k`'s sixteen elements, over the buffer as `k` trips left it, leaves it as `k + 1` trips do. -/
theorem read_store {off : Fin 1 → ℕ} {k : Fin 256} (ho : off 0 = 16 * k.val) (inb : ∀ a, off a + (Line 16).size a ≤ (Line 4096).size a)
    (f : v.ty.Contents Val) (p : (Line 16).Idx → Val e) (G g : (Line 4096).Idx → Val e)
    (hf : v.read Val f = mix k.val G g) (hp : ∀ l, p l = G (lane k l)) :
    v.read Val ((v.slice (Rect.unit (s := Line 4096) off (Line 16).size inb)).write Val f p Finset.univ) = mix (k.val + 1) G g := by
  funext j
  by_cases h : 16 * k.val ≤ (j 0).val ∧ (j 0).val < 16 * k.val + 16
  · obtain ⟨l, rfl⟩ : ∃ l, lane k l = j := by
      refine ⟨pt ((j 0).val - 16 * k.val) (by omega), ?_⟩
      funext a; obtain rfl : a = 0 := Subsingleton.elim _ _
      apply Fin.ext
      show 16 * k.val + ((j 0).val - 16 * k.val) = (j 0).val
      omega
    rw [← emb_lane ho inb l, View.read_slice_write_emb _ _ _ (Finset.mem_univ l), hp, emb_lane ho inb l]
    unfold mix; rw [if_pos]
    show 16 * k.val + (l 0).val < 16 * (k.val + 1)
    have : (l 0).val < 16 := (l 0).isLt
    omega
  · rw [View.read_slice_write_of_not_mem, hf]
    · unfold mix
      by_cases h' : (j 0).val < 16 * k.val
      · rw [if_pos h', if_pos (by omega)]
      · rw [if_neg h', if_neg (by omega)]
    · intro hm
      obtain ⟨l, -, rfl⟩ := Finset.mem_map.mp hm
      rw [emb_lane ho inb l] at h
      refine h ⟨?_, ?_⟩
      · show 16 * k.val ≤ 16 * k.val + (l 0).val; omega
      · show 16 * k.val + (l 0).val < 16 * k.val + 16
        have : (l 0).val < 16 := (l 0).isLt
        omega

end Cert.Proof.Lanes

end
-- ==== Proof.Tables.lean ====
/-
  Small facts used on both sides: reading a table by a word, and a separating conjunction over eight or sixteen items
  written out.
-/
module

public import Idealize.ShloMosaic.Lib.Batch
public import proofs.«01_k».proof.Proof.Lanes

@[expose] public section

noncomputable section

namespace Cert.Proof.Tables

open Idealize.ShloMosaic Idealize.ShloMosaic.Transfers
open Idealize.SL Idealize.SL.RA Idealize.SL.BI
open scoped Idealize.SL.BI
open Idealize.SL.BI.BIBase Idealize.SL.BI.Laws
open Cert.Proof.Lanes

/-- A table's entry at the position a word names. -/
def tab {α : Type} (T : (Line 2197000).Idx → α) (w : BitVec 32) : α := T (pt (w.toNat % 2197000) (Nat.mod_lt _ (by decide)))

theorem tab_of_lt {α : Type} (T : (Line 2197000).Idx → α) (w : BitVec 32) (h : w.toNat < 2197000) : tab T w = T (pt w.toNat h) := by
  unfold tab; congr 1; funext a; exact Fin.ext (Nat.mod_eq_of_lt h)

variable {nD : Nat} {τ : Topo} {sig : RefSig} {Ix : Type} [DecidableEq Ix] {Val : EltTy → Type} {Name : Type} [DecidableEq Name]
  {U : Type} [URA U] {Lvl : Type} [Preorder Lvl]

local notation "𝕄" => MT nD τ sig Ix Val Name U Lvl

/-- Eight items, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_pending_zero, bigSep_pending_step Φ 0 (by decide), bigSep_pending_step Φ 1 (by decide), bigSep_pending_step Φ 2 (by decide),
    bigSep_pending_step Φ 3 (by decide), bigSep_pending_step Φ 4 (by decide), bigSep_pending_step Φ 5 (by decide),
    bigSep_pending_step Φ 6 (by decide), bigSep_pending_last Φ 7 (by decide) rfl]
  rfl

/-- Sixteen items, two by two. -/
theorem bigSep_pairs (Φ : Fin 16 → sProp 𝕄) :
    bigSep Finset.univ Φ
      = bigSep Finset.univ fun c : Fin 8 => iprop(Φ ⟨2 * c.val, by omega⟩ ∗ Φ ⟨2 * c.val + 1, by omega⟩) := by
  rw [bigSep_univ_equiv (finProdFinEquiv (m := 8) (n := 2)) Φ, bigSep_univ_prod]
  refine bigSep_congr fun c _ => ?_
  rw [bigSep_fin_two]
  congr 1 <;> congr 1 <;> apply Fin.ext
  · show 0 + 2 * c.val = 2 * c.val; omega
  · show 1 + 2 * c.val = 2 * c.val + 1; omega

/-- Sixteen items, one by one. -/
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_pending_zero, bigSep_pending_step Φ 0 (by decide), bigSep_pending_step Φ 1 (by decide), bigSep_pending_step Φ 2 (by decide),
    bigSep_pending_step Φ 3 (by decide), bigSep_pending_step Φ 4 (by decide), bigSep_pending_step Φ 5 (by decide),
    bigSep_pending_step Φ 6 (by decide), bigSep_pending_step Φ 7 (by decide), bigSep_pending_step Φ 8 (by decide),
    bigSep_pending_step Φ 9 (by decide), bigSep_pending_step Φ 10 (by decide), bigSep_pending_step Φ 11 (by decide),
    bigSep_pending_step Φ 12 (by decide), bigSep_pending_step Φ 13 (by decide), bigSep_pending_step Φ 14 (by decide),
    bigSep_pending_last Φ 15 (by decide) rfl]
  rfl

end Cert.Proof.Tables

end
-- ==== Proof.GatherBatch.lean ====
/-
  Several indirect gathers outstanding on one DMA semaphore. A gather pays its semaphore one row at a time, every row the
  same amount `N`, so a set of gathers started one after another and waited for afterwards is ONE counted batch
  (Lib/Batch.lean) whose transfers are the rows of all the gathers. `wp_gatherBatch` starts the next gather of such a batch;
  the waits are the batch's own (each a whole number of rows), and once every row is paid for, the rows are collected and
  joined gather by gather (`gatherRows_join`).
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep bigSep_congr bigSep_map bigSep_union bigSep_univ_prod bigSep_univ_equiv)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## The rights of a run of consecutive transfers -/

/-- The embedding of `o` consecutive positions from `k` on into the batch's `n`. -/
def shift {n o k : ℕ} (h : k + o ≤ n) : Fin o ↪ Fin n :=
  ⟨fun j => ⟨k + j.val, by omega⟩, fun a b e => Fin.ext (by have := congrArg Fin.val e; simp only at this; omega)⟩

omit [DecidableEq Ix] [DecidableEq Name] [URA U] [Preorder Lvl] in
/-- What is pending from `k` on is the next `o` and what is pending from `k + o` on. -/
theorem pending_run {n o k : ℕ} (h : k + o ≤ n) : pending (n := n) k = (Finset.univ.map (shift h)) ∪ pending (k + o) := by
  ext t
  simp only [pending, Finset.mem_filter, Finset.mem_univ, true_and, Finset.mem_union, Finset.mem_map]
  constructor
  · intro ht
    by_cases hk : k + o ≤ t.val
    · exact .inr hk
    · exact .inl ⟨⟨t.val - k, by omega⟩, Fin.ext (by show k + (t.val - k) = t.val; omega)⟩
  · rintro (⟨j, rfl⟩ | hk)
    · exact Nat.le_add_right _ _
    · omega

/-- The separating conjunction over what is pending, cut after the next `o`. -/
theorem bigSep_pending_run {n o k : ℕ} (h : k + o ≤ n) (Φ : Fin n → sProp 𝕄) :
    bigSep (pending k) Φ = iprop((bigSep Finset.univ fun j : Fin o => Φ (shift h j)) ∗ bigSep (pending (k + o)) Φ) := by
  rw [pending_run h, bigSep_union (by
    rw [Finset.disjoint_left]; intro t h1 h2
    obtain ⟨j, -, rfl⟩ := Finset.mem_map.mp h1
    have : k + o ≤ k + j.val := (Finset.mem_filter.mp h2).2
    omega), bigSep_map]
  rfl

/-! ## One gather of the batch -/

section Gather

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The `j`-th entry of an offset list, in row-major order. -/
def entryAt {o : ℕ} (hn : si.numel = o) (j : Fin o) : si.Idx := si.rowMajor.symm (j.cast hn.symm)

/-- What row `j` of a gather delivers: row `j` of the destination written with the source's row named by the list's
    `j`-th word, that word of the list back, and the row's piece of the source's share back. -/
def gatherRow (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (entryAt hn j)}]{qo} fo)) ∗ (src.view.loc c ↦[src.view.set]{pieceOf q _ ho j} fs))

instance gatherRow_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (gatherRow c src dst hg offs hn ho q qo fs fd fo hin j) := by
  unfold gatherRow; infer_instance

/-- All rows of a gather: the destination written with the gather's payload, the source's share and the list's back. -/
theorem gatherRows_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (gatherRow c src dst hg offs hn ho q qo fs fd fo hin)
      ⊢ (iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hen : Function.Bijective (entryAt (si := si) hn) := si.rowMajor.symm.bijective.comp (finCongr hn.symm).bijective
  have hW : ∀ j i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  unfold gatherRow
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply (pointsTo_rows_write c dst.view hg.axis' fd
      (fun j i => src.view.read (Elt F) fs (hg.rowIdx (rows (offs.view.read (Elt F) fo) hn hin j) i)) _ hW); iexact Hrows
  isplitl [Hsrc]; · iapply (Entails.of_eq (pointsTo_piecesOf (src.view.set) fs ho q).symm) $$ Hsrc
  iapply (Entails.of_eq (pointsTo_entries c offs.view (entryAt hn) hen qo fo).symm) $$ Hoffs

/-- The start of the next gather of a batch: `k` rows of the batch started before it (and no more units waited for than
    those rows pay), the gather's rows the batch's next ones, the batch's deliveries there what the gather's rows deliver
    (`hD`). Holding shares of the source and of the list, the destination outright, every word of the list in range, the
    tile starts the gather and goes on with the batch, its rows started too. -/
theorem wp_gatherBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {k₀ u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k₀ + s.size hg.axis' ≤ n) (hu : u ≤ k₀ * N)
    (hD : ∀ j, gatherRow c src dst hg offs hn ho q qo fs fd fo hin j ⊢ D (shift hk j)) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (SparseCore.gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => SparseCore.gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := (si.rowMajor.symm.bijective.comp (finCongr hn.symm).bijective)
  have hsum : ∑ j, (rd j).dst.view.dmaCredit = s.size hg.axis' * N := sum_rowCredit_eq _ (fun j => hN j) rfl
  unfold Batch
  iintro ⟨Hs, Hd, Ho, ⟨%γ, %γ₀, %κ, #Hinv, HI, H0, Hcred⟩⟩ Hk
  ihave HI' := (Entails.of_eq (bigSep_pending_run hk fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ (shift hk j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · ihave Hcu := (batch_creditUpdate EC (g := (c, SemLoc.dma sem)) (N := N) (γ := γ) (γ₀ := γ₀) (ι := κ) (shift hk j) (hD j)) $$ [Hγj]
        · isplitr; · iexact Hinv
          iexact Hγj
        ihave Hcu' := (Entails.of_eq (show creditUpdate (c, SemLoc.dma sem) N 0 (gatherRow c src dst hg offs hn ho q qo fs fd fo hin j)
            = creditUpdate (c, SemLoc.dma sem) (rd j).dst.view.dmaCredit 0 _ from by rw [show (rd j).dst.view.dmaCredit = N from hN j])) $$ Hcu
        iexact Hcu'
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (k₀ + s.size hg.axis') * N - u = (k₀ * N - u) + s.size hg.axis' * N by rw [Nat.add_mul]; omega, ← tallyAt_add]
  icombine Hcred Hcred' as H
  iexact H

end Gather

end Cert.Proof.GatherBatch

end
-- ==== Proof.SetupKernelIdeal.lean ====
/-
  The kernel's launch as the SparseCore's launch theorem sees it, the buffers one tile works with, and the tile's
  program at those buffers. Everything here is over any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ShareLeaves
public import proofs.«01_k».proof.Proof.Gen.KernelIdeal
public import proofs.«01_k».proof.Proof.Gen.KernelIdeal.Skeleton
public import proofs.«01_k».proof.Proof.Spec
public import proofs.«01_k».proof.Proof.Lanes
public import proofs.«01_k».proof.Proof.GatherBatch

@[expose] public section

noncomputable section

namespace Cert.Proof.WarpKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## Ghost state: the handshakes' rounds and the transfers' counters -/

abbrev UH : Type := URounds (GSem nD τ sig) ℕ
abbrev UU : Type := UH × Counters
abbrev MM (F : FTy → Type) := MT nD τ sig (HIx 1) (Elt F) ℕ UU ℕ
abbrev EH : Emb UH (MT nD τ sig (HIx 1) (Elt F) ℕ UU ℕ) := embL

/-! ## The tile's buffers: the two tables, the three displacement fields, the two results; its own scratch -/

abbrev t0M : Memref sig .scVector .hbm S2197000 .f32 := Memref.whole main_v3_scv
abbrev t1M : Memref sig .scVector .hbm S2197000 .f32 := Memref.whole main_v6_scv
abbrev gxM : Memref sig .scVector .hbm S2097152 .f32 := Memref.whole main_v7_scv
abbrev gyM : Memref sig .scVector .hbm S2097152 .f32 := Memref.whole main_v8_scv
abbrev gzM : Memref sig .scVector .hbm S2097152 .f32 := Memref.whole main_v9_scv
abbrev o0M : Memref sig .scVector .hbm S2097152 .f32 := Memref.whole main_v10_0_scv
abbrev o1M : Memref sig .scVector .hbm S2097152 .f32 := Memref.whole main_v10_1_scv
abbrev wxM : Memref sig .scVector .vmem S4096 .f32 := Memref.whole cc0_scratch0
abbrev wyM : Memref sig .scVector .vmem S4096 .f32 := Memref.whole cc0_scratch1
abbrev wzM : Memref sig .scVector .vmem S4096 .f32 := Memref.whole cc0_scratch2
abbrev i0M : Memref sig .scVector .vmem S4096 .i32 := Memref.whole cc0_scratch3
abbrev i1M : Memref sig .scVector .vmem S4096 .i32 := Memref.whole cc0_scratch4
abbrev i2M : Memref sig .scVector .vmem S4096 .i32 := Memref.whole cc0_scratch5
abbrev i3M : Memref sig .scVector .vmem S4096 .i32 := Memref.whole cc0_scratch6
abbrev i4M : Memref sig .scVector .vmem S4096 .i32 := Memref.whole cc0_scratch7
abbrev i5M : Memref sig .scVector .vmem S4096 .i32 := Memref.whole cc0_scratch8
abbrev i6M : Memref sig .scVector .vmem S4096 .i32 := Memref.whole cc0_scratch9
abbrev i7M : Memref sig .scVector .vmem S4096 .i32 := Memref.whole cc0_scratch10
abbrev a0M : Memref sig .scVector .vmem S4096 .f32 := Memref.whole cc0_scratch11
abbrev a1M : Memref sig .scVector .vmem S4096 .f32 := Memref.whole cc0_scratch12
abbrev a2M : Memref sig .scVector .vmem S4096 .f32 := Memref.whole cc0_scratch13
abbrev a3M : Memref sig .scVector .vmem S4096 .f32 := Memref.whole cc0_scratch14
abbrev a4M : Memref sig .scVector .vmem S4096 .f32 := Memref.whole cc0_scratch15
abbrev a5M : Memref sig .scVector .vmem S4096 .f32 := Memref.whole cc0_scratch16
abbrev a6M : Memref sig .scVector .vmem S4096 .f32 := Memref.whole cc0_scratch17
abbrev a7M : Memref sig .scVector .vmem S4096 .f32 := Memref.whole cc0_scratch18
abbrev b0M : Memref sig .scVector .vmem S4096 .f32 := Memref.whole cc0_scratch19
abbrev b1M : Memref sig .scVector .vmem S4096 .f32 := Memref.whole cc0_scratch20
abbrev b2M : Memref sig .scVector .vmem S4096 .f32 := Memref.whole cc0_scratch21
abbrev b3M : Memref sig .scVector .vmem S4096 .f32 := Memref.whole cc0_scratch22
abbrev b4M : Memref sig .scVector .vmem S4096 .f32 := Memref.whole cc0_scratch23
abbrev b5M : Memref sig .scVector .vmem S4096 .f32 := Memref.whole cc0_scratch24
abbrev b6M : Memref sig .scVector .vmem S4096 .f32 := Memref.whole cc0_scratch25
abbrev b7M : Memref sig .scVector .vmem S4096 .f32 := Memref.whole cc0_scratch26
abbrev r0M : Memref sig .scVector .vmem S4096 .f32 := Memref.whole cc0_scratch27
abbrev r1M : Memref sig .scVector .vmem S4096 .f32 := Memref.whole cc0_scratch28

/-- The tile at coordinates `L`. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-! ## The tile's program at its buffers -/

variable [FloatOps F]

/-- The whole program of one tile. -/
abbrev tileProg (L : grid0.Coords) :=
  cc0__warp_body (F := F) L
    t0M (Memref.isWhole_whole _) t1M (Memref.isWhole_whole _) gxM (Memref.isWhole_whole _) gyM (Memref.isWhole_whole _)
    gzM (Memref.isWhole_whole _) o0M (Memref.isWhole_whole _) o1M (Memref.isWhole_whole _) wxM (Memref.isWhole_whole _)
    wyM (Memref.isWhole_whole _) wzM (Memref.isWhole_whole _) i0M (Memref.isWhole_whole _) i1M (Memref.isWhole_whole _)
    i2M (Memref.isWhole_whole _) i3M (Memref.isWhole_whole _) i4M (Memref.isWhole_whole _) i5M (Memref.isWhole_whole _)
    i6M (Memref.isWhole_whole _) i7M (Memref.isWhole_whole _) a0M (Memref.isWhole_whole _) a1M (Memref.isWhole_whole _)
    a2M (Memref.isWhole_whole _) a3M (Memref.isWhole_whole _) a4M (Memref.isWhole_whole _) a5M (Memref.isWhole_whole _)
    a6M (Memref.isWhole_whole _) a7M (Memref.isWhole_whole _) b0M (Memref.isWhole_whole _) b1M (Memref.isWhole_whole _)
    b2M (Memref.isWhole_whole _) b3M (Memref.isWhole_whole _) b4M (Memref.isWhole_whole _) b5M (Memref.isWhole_whole _)
    b6M (Memref.isWhole_whole _) b7M (Memref.isWhole_whole _) r0M (Memref.isWhole_whole _) r1M (Memref.isWhole_whole _)
    cc0_scratch29 cc0_scoped0 cc0_scoped1 cc0_scoped2 cc0_scoped3 cc0_scoped4

/-- One chunk of the tile's program. -/
abbrev chunkProg (L : grid0.Coords) (v2 : BitVec 32) (v3 : IVec S16 32) :=
  k0_t1_body (F := F) L
    t0M (Memref.isWhole_whole _) t1M (Memref.isWhole_whole _) gxM (Memref.isWhole_whole _) gyM (Memref.isWhole_whole _)
    gzM (Memref.isWhole_whole _) o0M (Memref.isWhole_whole _) o1M (Memref.isWhole_whole _) wxM (Memref.isWhole_whole _)
    wyM (Memref.isWhole_whole _) wzM (Memref.isWhole_whole _) i0M (Memref.isWhole_whole _) i1M (Memref.isWhole_whole _)
    i2M (Memref.isWhole_whole _) i3M (Memref.isWhole_whole _) i4M (Memref.isWhole_whole _) i5M (Memref.isWhole_whole _)
    i6M (Memref.isWhole_whole _) i7M (Memref.isWhole_whole _) a0M (Memref.isWhole_whole _) a1M (Memref.isWhole_whole _)
    a2M (Memref.isWhole_whole _) a3M (Memref.isWhole_whole _) a4M (Memref.isWhole_whole _) a5M (Memref.isWhole_whole _)
    a6M (Memref.isWhole_whole _) a7M (Memref.isWhole_whole _) b0M (Memref.isWhole_whole _) b1M (Memref.isWhole_whole _)
    b2M (Memref.isWhole_whole _) b3M (Memref.isWhole_whole _) b4M (Memref.isWhole_whole _) b5M (Memref.isWhole_whole _)
    b6M (Memref.isWhole_whole _) b7M (Memref.isWhole_whole _) r0M (Memref.isWhole_whole _) r1M (Memref.isWhole_whole _)
    cc0_scratch29 cc0_scoped0 cc0_scoped1 cc0_scoped2 cc0_scoped3 cc0_scoped4 v2 v3

/-- One trip of the loop that computes weights and positions. -/
abbrev prepProg (L : grid0.Coords) (v2 : BitVec 32) (v3 : IVec S16 32) (k : Fin k0_t1_loop.trips) (v6 : BitVec 32) :=
  k0_t2_body (F := F) L
    t0M (Memref.isWhole_whole _) t1M (Memref.isWhole_whole _) gxM (Memref.isWhole_whole _) gyM (Memref.isWhole_whole _)
    gzM (Memref.isWhole_whole _) o0M (Memref.isWhole_whole _) o1M (Memref.isWhole_whole _) wxM (Memref.isWhole_whole _)
    wyM (Memref.isWhole_whole _) wzM (Memref.isWhole_whole _) i0M (Memref.isWhole_whole _) i1M (Memref.isWhole_whole _)
    i2M (Memref.isWhole_whole _) i3M (Memref.isWhole_whole _) i4M (Memref.isWhole_whole _) i5M (Memref.isWhole_whole _)
    i6M (Memref.isWhole_whole _) i7M (Memref.isWhole_whole _) a0M (Memref.isWhole_whole _) a1M (Memref.isWhole_whole _)
    a2M (Memref.isWhole_whole _) a3M (Memref.isWhole_whole _) a4M (Memref.isWhole_whole _) a5M (Memref.isWhole_whole _)
    a6M (Memref.isWhole_whole _) a7M (Memref.isWhole_whole _) b0M (Memref.isWhole_whole _) b1M (Memref.isWhole_whole _)
    b2M (Memref.isWhole_whole _) b3M (Memref.isWhole_whole _) b4M (Memref.isWhole_whole _) b5M (Memref.isWhole_whole _)
    b6M (Memref.isWhole_whole _) b7M (Memref.isWhole_whole _) r0M (Memref.isWhole_whole _) r1M (Memref.isWhole_whole _)
    cc0_scratch29 cc0_scoped0 cc0_scoped1 cc0_scoped2 cc0_scoped3 cc0_scoped4 v2 v3 0#32 1#32 k v6

/-- One trip of the loop that sums. -/
abbrev sumProg (L : grid0.Coords) :=
  k0_t3_body (F := F) L
    t0M (Memref.isWhole_whole _) t1M (Memref.isWhole_whole _) gxM (Memref.isWhole_whole _) gyM (Memref.isWhole_whole _)
    gzM (Memref.isWhole_whole _) o0M (Memref.isWhole_whole _) o1M (Memref.isWhole_whole _) wxM (Memref.isWhole_whole _)
    wyM (Memref.isWhole_whole _) wzM (Memref.isWhole_whole _) i0M (Memref.isWhole_whole _) i1M (Memref.isWhole_whole _)
    i2M (Memref.isWhole_whole _) i3M (Memref.isWhole_whole _) i4M (Memref.isWhole_whole _) i5M (Memref.isWhole_whole _)
    i6M (Memref.isWhole_whole _) i7M (Memref.isWhole_whole _) a0M (Memref.isWhole_whole _) a1M (Memref.isWhole_whole _)
    a2M (Memref.isWhole_whole _) a3M (Memref.isWhole_whole _) a4M (Memref.isWhole_whole _) a5M (Memref.isWhole_whole _)
    a6M (Memref.isWhole_whole _) a7M (Memref.isWhole_whole _) b0M (Memref.isWhole_whole _) b1M (Memref.isWhole_whole _)
    b2M (Memref.isWhole_whole _) b3M (Memref.isWhole_whole _) b4M (Memref.isWhole_whole _) b5M (Memref.isWhole_whole _)
    b6M (Memref.isWhole_whole _) b7M (Memref.isWhole_whole _) r0M (Memref.isWhole_whole _) r1M (Memref.isWhole_whole _)
    cc0_scratch29 cc0_scoped0 cc0_scoped1 cc0_scoped2 cc0_scoped3 cc0_scoped4

/-! ## The payloads, lane by lane -/

section Lanes

open Cert.Proof.Spec Cert.Proof.Lanes

/-- The lane numbers of a vector register. -/
abbrev lanes : IVec S16 32 := iota .scVector S16 32 [0] iota_S16_d0_w32_scVector

/-- The position in the volume of lane `l` in trip `k` of the chunk whose first position is `b`. -/
theorem pay1_lane (b : BitVec 32) (k : Fin k0_t2_loop.trips) (l : S16.Idx) :
    k0_pay1 lanes b 0#32 1#32 k l = b + BitVec.ofNat 32 (16 * k.val + (l 0).val) := by
  simp only [k0_pay1, addi, IntOp.addi, broadcast, iota, lanes, Scalar.addi, Scalar.muli, IntOp.muli, Scf.iv, List.foldl]
  rw [BitVec.add_assoc]
  congr 1
  apply BitVec.eq_of_toNat_eq
  simp only [BitVec.toNat_add, BitVec.toNat_mul, BitVec.toNat_ofNat]
  have := k.isLt
  omega

variable (b : BitVec 32) (k : Fin k0_t2_loop.trips) (x y z : Vec F S16 .f32) (l : S16.Idx)

/-- The displaced coordinates of lane `l`. -/
abbrev px : F .f32 := pos (x l) (meshX (k0_pay1 lanes b 0#32 1#32 k l))
abbrev py : F .f32 := pos (y l) (meshY (k0_pay1 lanes b 0#32 1#32 k l))
abbrev pz : F .f32 := pos (z l) (meshZ (k0_pay1 lanes b 0#32 1#32 k l))

/-- The values the first loop computes on its way, at one lane: the coordinates, -/
theorem pay2_lane : k0_pay2 lanes b 0#32 1#32 k x l = px b k x l := by
  simp only [k0_pay2, shapeCast_self]; rfl
theorem pay3_lane : k0_pay3 lanes b 0#32 1#32 k y l = py b k y l := by
  simp only [k0_pay3, shapeCast_self]; rfl
theorem pay4_lane : k0_pay4 lanes b 0#32 1#32 k z l = pz b k z l := by
  simp only [k0_pay4, shapeCast_self]; rfl

/-- their floors, -/
theorem pay5_lane : k0_pay5 lanes b 0#32 1#32 k x l = floorWord (px b k x l) := by
  rw [← pay2_lane]; rfl
theorem pay6_lane : k0_pay6 lanes b 0#32 1#32 k y l = floorWord (py b k y l) := by
  rw [← pay3_lane]; rfl
theorem pay9_lane :
    k0_pay9 (k0_pay4 lanes b 0#32 1#32 k z) (k0_pay7 lanes b 0#32 1#32 k z) (k0_pay8 lanes b 0#32 1#32 k z) l = floorWord (pz b k z l) := by
  rw [← pay4_lane]; rfl

/-- the corners' coordinates, -/
theorem pay10_lane : k0_pay10 (k0_pay5 lanes b 0#32 1#32 k x) l = lo (px b k x l) := by
  unfold lo; rw [← pay5_lane]; rfl
theorem pay11_lane : k0_pay11 (k0_pay5 lanes b 0#32 1#32 k x) l = hi (px b k x l) := by
  unfold hi; rw [← pay5_lane]; rfl
theorem pay12_lane : k0_pay12 (k0_pay6 lanes b 0#32 1#32 k y) l = lo (py b k y l) := by
  unfold lo; rw [← pay6_lane]; rfl
theorem pay13_lane : k0_pay13 (k0_pay6 lanes b 0#32 1#32 k y) l = hi (py b k y l) := by
  unfold hi; rw [← pay6_lane]; rfl
theorem pay14_lane :
    k0_pay14 (k0_pay4 lanes b 0#32 1#32 k z) (k0_pay7 lanes b 0#32 1#32 k z) (k0_pay8 lanes b 0#32 1#32 k z) l = lo (pz b k z l) := by
  unfold lo; rw [← pay9_lane]; rfl
theorem pay15_lane :
    k0_pay15 (k0_pay4 lanes b 0#32 1#32 k z) (k0_pay7 lanes b 0#32 1#32 k z) (k0_pay8 lanes b 0#32 1#32 k z) l = hi (pz b k z l) := by
  unfold hi; rw [← pay9_lane]; rfl

/-- What the first loop stores into the weight buffers: the voxel's three weights. -/
theorem pay_wx : k0_pay16 (k0_pay2 lanes b 0#32 1#32 k x) (k0_pay5 lanes b 0#32 1#32 k x) l = wgt (px b k x l) := by
  unfold wgt; rw [← pay11_lane, ← pay2_lane]; simp only [k0_pay16, shapeCast_self]; rfl
theorem pay_wy : k0_pay18 (k0_pay17 (k0_pay3 lanes b 0#32 1#32 k y) (k0_pay6 lanes b 0#32 1#32 k y)) l = wgt (py b k y l) := by
  unfold wgt; rw [← pay13_lane, ← pay3_lane]; simp only [k0_pay18, k0_pay17, shapeCast_self]; rfl
theorem pay_wz : k0_pay19 (k0_pay4 lanes b 0#32 1#32 k z)
    (k0_pay15 (k0_pay4 lanes b 0#32 1#32 k z) (k0_pay7 lanes b 0#32 1#32 k z) (k0_pay8 lanes b 0#32 1#32 k z)) l = wgt (pz b k z l) := by
  unfold wgt; rw [← pay15_lane, ← pay4_lane]; simp only [k0_pay19, shapeCast_self]; rfl

/-- The words the first loop stores into the eight lists, as functions of the corners' coordinates. -/
theorem pay_i0 (x0 y0 z0 : IVec S16 32) : k0_pay29 x0 y0 z0 l = cell (y0 l) (x0 l) (z0 l) := by
  simp only [k0_pay29, k0_pay25, k0_pay20, k0_pay22, shapeCast_self]; rfl
theorem pay_i1 (x0 y1 z0 : IVec S16 32) : k0_pay30 x0 y1 z0 l = cell (y1 l) (x0 l) (z0 l) := by
  simp only [k0_pay30, k0_pay26, k0_pay21, k0_pay22, shapeCast_self]; rfl
theorem pay_i2 (x1 y0 z0 : IVec S16 32) : k0_pay31 x1 y0 z0 l = cell (y0 l) (x1 l) (z0 l) := by
  simp only [k0_pay31, k0_pay27, k0_pay20, k0_pay23, shapeCast_self]; rfl
theorem pay_i3 (x1 y1 z0 : IVec S16 32) : k0_pay32 x1 y1 z0 l = cell (y1 l) (x1 l) (z0 l) := by
  simp only [k0_pay32, k0_pay28, k0_pay21, k0_pay23, shapeCast_self]; rfl
theorem pay_i4 (x0 y0 z0 z1 : IVec S16 32) : k0_pay33 x0 y0 z0 z1 l = cellUp (y0 l) (x0 l) (z0 l) (z1 l) := by
  simp only [k0_pay33, k0_pay25, k0_pay24, k0_pay20, k0_pay22, shapeCast_self]; rfl
theorem pay_i5 (x0 y1 z0 z1 : IVec S16 32) : k0_pay57 (k0_pay34 x0 y1 z0 z1) l = cellUp (y1 l) (x0 l) (z0 l) (z1 l) := by
  simp only [k0_pay57, k0_pay34, k0_pay26, k0_pay24, k0_pay21, k0_pay22, shapeCast_self]; rfl
theorem pay_i6 (x1 y0 z0 z1 : IVec S16 32) : k0_pay58 (k0_pay24 z0 z1) (k0_pay27 x1 y0 z0) l = cellUp (y0 l) (x1 l) (z0 l) (z1 l) := by
  simp only [k0_pay58, k0_pay27, k0_pay24, k0_pay20, k0_pay23, shapeCast_self]; rfl
theorem pay_i7 (x1 y1 z0 z1 : IVec S16 32) : k0_pay59 (k0_pay24 z0 z1) (k0_pay28 x1 y1 z0) l = cellUp (y1 l) (x1 l) (z0 l) (z1 l) := by
  simp only [k0_pay59, k0_pay28, k0_pay24, k0_pay21, k0_pay23, shapeCast_self]; rfl

/-- What the second loop stores: the weighted sums of the eight values gathered from either table. -/
theorem pay_r0 (wx wy wz t0 t1 t2 t3 t4 t5 t6 t7 : Vec F S16 .f32) :
    k0_pay55 (k0_pay50 wx wy wz) (k0_pay51 wx wy wz) (k0_pay52 wx wy wz) (k0_pay53 wx wy wz t0 t1 t2 t3 t4) (k0_pay54 t5) t6 t7 l
      = dot8 (wts (wx l) (wy l) (wz l)) ![t0 l, t1 l, t2 l, t3 l, t4 l, t5 l, t6 l, t7 l] := by
  simp only [k0_pay55, k0_pay54, k0_pay53, k0_pay52, k0_pay51, k0_pay50, k0_pay49, k0_pay48, k0_pay47, k0_pay46, k0_pay45,
    k0_pay44, k0_pay43, k0_pay42, k0_pay41, k0_pay40, k0_pay39, k0_pay38, k0_pay37, k0_pay36, k0_pay35, shapeCast_self]; rfl
theorem pay_r1 (wx wy wz t0 t1 t2 t3 t4 t5 t6 t7 : Vec F S16 .f32) :
    k0_pay56 (k0_pay45 wx wy wz) (k0_pay46 wx wy wz) (k0_pay47 wx wy wz) (k0_pay48 wx wy wz) (k0_pay49 wx wy wz)
        (k0_pay50 wx wy wz) (k0_pay51 wx wy wz) (k0_pay52 wx wy wz) t0 t1 t2 t3 t4 t5 t6 t7 l
      = dot8 (wts (wx l) (wy l) (wz l)) ![t0 l, t1 l, t2 l, t3 l, t4 l, t5 l, t6 l, t7 l] := by
  simp only [k0_pay56, k0_pay52, k0_pay51, k0_pay50, k0_pay49, k0_pay48, k0_pay47, k0_pay46, k0_pay45,
    k0_pay44, k0_pay43, k0_pay42, k0_pay41, k0_pay40, k0_pay39, k0_pay38, k0_pay37, k0_pay36, k0_pay35, shapeCast_self]; rfl

end Lanes

end Cert.Proof.WarpKernelIdeal

end
-- ==== Proof.PrepKernelIdeal.lean ====
/-
  The first of the tile's two inner loops: sixteen voxels a trip, it turns the displacements of a chunk into weights, in
  place, and writes the eight corners' positions into the eight lists.
-/
module

public import proofs.«01_k».proof.Proof.SetupKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Cert.Proof.Spec Cert.Proof.Lanes

variable {F : FTy → Type} [FloatOps F]

local notation "𝕄" => MT nD τ sig (HIx 1) (Elt F) ℕ UU ℕ

/-! ## What the loop leaves in the eleven buffers -/

/-- The position in the volume of element `j` of the chunk that starts at `b`. -/
def posn (b : BitVec 32) (j : (Line 4096).Idx) : BitVec 32 := b + BitVec.ofNat 32 (j 0).val

variable (b : BitVec 32) (fx fy fz : (Line 4096).Idx → F .f32)

/-- Element `j`'s displaced coordinates, from the chunk's displacements. -/
def cx (j : (Line 4096).Idx) : F .f32 := pos (fx j) (meshX (posn b j))
def cy (j : (Line 4096).Idx) : F .f32 := pos (fy j) (meshY (posn b j))
def cz (j : (Line 4096).Idx) : F .f32 := pos (fz j) (meshZ (posn b j))

/-- The chunk's weights along each axis, -/
def wX (j : (Line 4096).Idx) : F .f32 := wgt (cx b fx j)
def wY (j : (Line 4096).Idx) : F .f32 := wgt (cy b fy j)
def wZ (j : (Line 4096).Idx) : F .f32 := wgt (cz b fz j)
/-- and its list of positions of corner `c`. -/
def iC (c : Fin 8) (j : (Line 4096).Idx) : BitVec 32 := idx (cx b fx j) (cy b fy j) (cz b fz j) c

/-- A buffer of the tile, whole, at given contents. -/
abbrev own {e : EltTy} (d : Dev nD) (L : grid0.Coords) (m : Memref sig .scVector .vmem S4096 e) (f : Buf (Elt F) (m.view.loc (tile d L))) : sProp 𝕄 :=
  m.view.loc (tile d L) ↦{fullShare} f

/-- The eleven buffers after `k` trips, from displacements `fx`, `fy`, `fz` and lists `g`. -/
def prepInv (d : Dev nD) (L : grid0.Coords) (g : Fin 8 → (Line 4096).Idx → BitVec 32) (k : ℕ) (_ : Unit) : sProp 𝕄 :=
  iprop(own d L wxM (mix k (wX b fx) fx) ∗ own d L wyM (mix k (wY b fy) fy) ∗ own d L wzM (mix k (wZ b fz) fz)
    ∗ own d L i0M (mix k (iC b fx fy fz 0) (g 0)) ∗ own d L i1M (mix k (iC b fx fy fz 1) (g 1))
    ∗ own d L i2M (mix k (iC b fx fy fz 2) (g 2)) ∗ own d L i3M (mix k (iC b fx fy fz 3) (g 3))
    ∗ own d L i4M (mix k (iC b fx fy fz 4) (g 4)) ∗ own d L i5M (mix k (iC b fx fy fz 5) (g 5))
    ∗ own d L i6M (mix k (iC b fx fy fz 6) (g 6)) ∗ own d L i7M (mix k (iC b fx fy fz 7) (g 7)))

/-- A trip's number, below 256. -/
def trip2 (k : Fin k0_t2_loop.trips) : Fin 256 := ⟨k.val, Nat.lt_of_lt_of_le k.isLt k0_t2_abs.2.1⟩

omit [FloatOps F] in
theorem off2_zero (k : Fin k0_t2_loop.trips) : k0_off2 k 0 = 16 * (trip2 k).val := by rw [k0_off2_eq]; rfl

omit [FloatOps F] in
/-- Lane `l` of trip `k` is position `16 k + l` of the chunk. -/
theorem posn_lane (k : Fin k0_t2_loop.trips) (l : S16.Idx) : k0_pay1 lanes b 0#32 1#32 k l = posn b (lane (trip2 k) l) := pay1_lane b k l

section Stored

variable (k : Fin k0_t2_loop.trips) (vx vy vz : Vec F S16 .f32)
  (hx : ∀ l, vx l = fx (lane (trip2 k) l)) (hy : ∀ l, vy l = fy (lane (trip2 k) l)) (hz : ∀ l, vz l = fz (lane (trip2 k) l))

include hx in
theorem px_lane (l : S16.Idx) : px b k vx l = cx b fx (lane (trip2 k) l) := by unfold px cx; rw [hx, posn_lane]
include hy in
theorem py_lane (l : S16.Idx) : py b k vy l = cy b fy (lane (trip2 k) l) := by unfold py cy; rw [hy, posn_lane]
include hz in
theorem pz_lane (l : S16.Idx) : pz b k vz l = cz b fz (lane (trip2 k) l) := by unfold pz cz; rw [hz, posn_lane]

end Stored

set_option maxHeartbeats 2000000 in
/-- One trip: it stores sixteen weights along each axis and sixteen positions in each list. -/
theorem prep_trip (d : Dev nD) (L : grid0.Coords) (v2 : BitVec 32) (t : Fin k0_t1_loop.trips) (g : Fin 8 → (Line 4096).Idx → BitVec 32)
    (k : Fin k0_t2_loop.trips) :
    prepInv b fx fy fz d L g k.val ()
      ⊢ wp frame (wpE (defs₀ (F := F)) 𝒱₀ (tile d L) none) Set.univ (prepProg (F := F) L v2 lanes t b k ())
          fun _ => prepInv b fx fy fz d L g (k.val + 1) () := by
  unfold prepProg k0_t2_body prepInv
  simp only [k0_part1_eq_skeleton, k0_part2_eq_skeleton, k0_part3_eq_skeleton]
  unfold k0_part1_skel k0_part2_skel k0_part3_skel
  let r := (Rect.unit (s := S4096) (k0_off2 k) S16.size (k0_off2_inb k)).toLoadRect
  let vx : Vec F S16 .f32 := View.readAt (Elt F) wxM.view r (mix k.val (wX b fx) fx)
  let vy : Vec F S16 .f32 := View.readAt (Elt F) wyM.view r (mix k.val (wY b fy) fy)
  let vz : Vec F S16 .f32 := View.readAt (Elt F) wzM.view r (mix k.val (wZ b fz) fz)
  have ex := px_lane b fx k vx fun l => (read_lane wxM.view (off2_zero k) (k0_off2_inb k) _ l).trans (mix_lane (trip2 k) _ _ l)
  have ey := py_lane b fy k vy fun l => (read_lane wyM.view (off2_zero k) (k0_off2_inb k) _ l).trans (mix_lane (trip2 k) _ _ l)
  have ez := pz_lane b fz k vz fun l => (read_lane wzM.view (off2_zero k) (k0_off2_inb k) _ l).trans (mix_lane (trip2 k) _ _ l)
  let x0 := k0_pay10 (k0_pay5 lanes b 0#32 1#32 k vx)
  let x1 := k0_pay11 (k0_pay5 lanes b 0#32 1#32 k vx)
  let y0 := k0_pay12 (k0_pay6 lanes b 0#32 1#32 k vy)
  let y1 := k0_pay13 (k0_pay6 lanes b 0#32 1#32 k vy)
  let z0 := k0_pay14 (k0_pay4 lanes b 0#32 1#32 k vz) (k0_pay7 lanes b 0#32 1#32 k vz) (k0_pay8 lanes b 0#32 1#32 k vz)
  let z1 := k0_pay15 (k0_pay4 lanes b 0#32 1#32 k vz) (k0_pay7 lanes b 0#32 1#32 k vz) (k0_pay8 lanes b 0#32 1#32 k vz)
  have hx0 : ∀ l, x0 l = lo (cx b fx (lane (trip2 k) l)) := fun l => (pay10_lane b k vx l).trans (congrArg lo (ex l))
  have hx1 : ∀ l, x1 l = hi (cx b fx (lane (trip2 k) l)) := fun l => (pay11_lane b k vx l).trans (congrArg hi (ex l))
  have hy0 : ∀ l, y0 l = lo (cy b fy (lane (trip2 k) l)) := fun l => (pay12_lane b k vy l).trans (congrArg lo (ey l))
  have hy1 : ∀ l, y1 l = hi (cy b fy (lane (trip2 k) l)) := fun l => (pay13_lane b k vy l).trans (congrArg hi (ey l))
  have hz0 : ∀ l, z0 l = lo (cz b fz (lane (trip2 k) l)) := fun l => (pay14_lane b k vz l).trans (congrArg lo (ez l))
  have hz1 : ∀ l, z1 l = hi (cz b fz (lane (trip2 k) l)) := fun l => (pay15_lane b k vz l).trans (congrArg hi (ez l))
  have q0 : ∀ l, k0_pay29 x0 y0 z0 l = iC b fx fy fz 0 (lane (trip2 k) l) := fun l => by
    rw [pay_i0, hx0, hy0, hz0]; rfl
  have q1 : ∀ l, k0_pay30 x0 y1 z0 l = iC b fx fy fz 1 (lane (trip2 k) l) := fun l => by
    rw [pay_i1, hx0, hy1, hz0]; rfl
  have q2 : ∀ l, k0_pay31 x1 y0 z0 l = iC b fx fy fz 2 (lane (trip2 k) l) := fun l => by
    rw [pay_i2, hx1, hy0, hz0]; rfl
  have q3 : ∀ l, k0_pay32 x1 y1 z0 l = iC b fx fy fz 3 (lane (trip2 k) l) := fun l => by
    rw [pay_i3, hx1, hy1, hz0]; rfl
  have q4 : ∀ l, k0_pay33 x0 y0 z0 z1 l = iC b fx fy fz 4 (lane (trip2 k) l) := fun l => by
    rw [pay_i4, hx0, hy0, hz0, hz1]; rfl
  have q5 : ∀ l, k0_pay57 (k0_pay34 x0 y1 z0 z1) l = iC b fx fy fz 5 (lane (trip2 k) l) := fun l => by
    rw [pay_i5, hx0, hy1, hz0, hz1]; rfl
  have q6 : ∀ l, k0_pay58 (k0_pay24 z0 z1) (k0_pay27 x1 y0 z0) l = iC b fx fy fz 6 (lane (trip2 k) l) := fun l => by
    rw [pay_i6, hx1, hy0, hz0, hz1]; rfl
  have q7 : ∀ l, k0_pay59 (k0_pay24 z0 z1) (k0_pay28 x1 y1 z0) l = iC b fx fy fz 7 (lane (trip2 k) l) := fun l => by
    rw [pay_i7, hx1, hy1, hz0, hz1]; rfl
  iintro ⟨Hx, Hy, Hz, H0, H1, H2, H3, H4, H5, H6, H7⟩
  sl_exec
  sl_step
  isplitl [Hx]
  · iapply (Entails.of_eq (congrArg (own d L wxM) (read_store (Val := Elt F) wxM.view (off2_zero k) (k0_off2_inb k)
      (mix k.val (wX b fx) fx) _ (wX b fx) fx rfl (fun l => (pay_wx b k vx l).trans (congrArg wgt (ex l)))))); iexact Hx
  isplitl [Hy]
  · iapply (Entails.of_eq (congrArg (own d L wyM) (read_store (Val := Elt F) wyM.view (off2_zero k) (k0_off2_inb k)
      (mix k.val (wY b fy) fy) _ (wY b fy) fy rfl (fun l => (pay_wy b k vy l).trans (congrArg wgt (ey l)))))); iexact Hy
  isplitl [Hz]
  · iapply (Entails.of_eq (congrArg (own d L wzM) (read_store (Val := Elt F) wzM.view (off2_zero k) (k0_off2_inb k)
      (mix k.val (wZ b fz) fz) _ (wZ b fz) fz rfl (fun l => (pay_wz b k vz l).trans (congrArg wgt (ez l)))))); iexact Hz
  isplitl [H0]
  · iapply (Entails.of_eq (congrArg (own d L i0M) (read_store (Val := Elt F) i0M.view (off2_zero k) (k0_off2_inb k)
      (mix k.val (iC b fx fy fz 0) (g 0)) _ (iC b fx fy fz 0) (g 0) rfl q0))); iexact H0
  isplitl [H1]
  · iapply (Entails.of_eq (congrArg (own d L i1M) (read_store (Val := Elt F) i1M.view (off2_zero k) (k0_off2_inb k)
      (mix k.val (iC b fx fy fz 1) (g 1)) _ (iC b fx fy fz 1) (g 1) rfl q1))); iexact H1
  isplitl [H2]
  · iapply (Entails.of_eq (congrArg (own d L i2M) (read_store (Val := Elt F) i2M.view (off2_zero k) (k0_off2_inb k)
      (mix k.val (iC b fx fy fz 2) (g 2)) _ (iC b fx fy fz 2) (g 2) rfl q2))); iexact H2
  isplitl [H3]
  · iapply (Entails.of_eq (congrArg (own d L i3M) (read_store (Val := Elt F) i3M.view (off2_zero k) (k0_off2_inb k)
      (mix k.val (iC b fx fy fz 3) (g 3)) _ (iC b fx fy fz 3) (g 3) rfl q3))); iexact H3
  isplitl [H4]
  · iapply (Entails.of_eq (congrArg (own d L i4M) (read_store (Val := Elt F) i4M.view (off2_zero k) (k0_off2_inb k)
      (mix k.val (iC b fx fy fz 4) (g 4)) _ (iC b fx fy fz 4) (g 4) rfl q4))); iexact H4
  isplitl [H5]
  · iapply (Entails.of_eq (congrArg (own d L i5M) (read_store (Val := Elt F) i5M.view (off2_zero k) (k0_off2_inb k)
      (mix k.val (iC b fx fy fz 5) (g 5)) _ (iC b fx fy fz 5) (g 5) rfl q5))); iexact H5
  isplitl [H6]
  · iapply (Entails.of_eq (congrArg (own d L i6M) (read_store (Val := Elt F) i6M.view (off2_zero k) (k0_off2_inb k)
      (mix k.val (iC b fx fy fz 6) (g 6)) _ (iC b fx fy fz 6) (g 6) rfl q6))); iexact H6
  · iapply (Entails.of_eq (congrArg (own d L i7M) (read_store (Val := Elt F) i7M.view (off2_zero k) (k0_off2_inb k)
      (mix k.val (iC b fx fy fz 7) (g 7)) _ (iC b fx fy fz 7) (g 7) rfl q7))); iexact H7

/-- The loop: every weight and every position. -/
theorem prep_loop (d : Dev nD) (L : grid0.Coords) (v2 : BitVec 32) (t : Fin k0_t1_loop.trips) (g : Fin 8 → (Line 4096).Idx → BitVec 32) :
    prepInv b fx fy fz d L g 0 ()
      ⊢ wp frame (wpE (defs₀ (F := F)) 𝒱₀ (tile d L) none) Set.univ
          (Scf.Loop.for k0_t2_loop k0_t2_ok ⟨⟩ (prepProg (F := F) L v2 lanes t b))
          fun _ => prepInv b fx fy fz d L g 256 () := by
  iintro H
  sl_for (prepInv b fx fy fz d L g) $$ [H]
  case region => intro k _; exact prep_trip b fx fy fz d L v2 t g k
  isplitl [H]
  · iexact H
  iintro %_ HI
  iexact HI

end Cert.Proof.WarpKernelIdeal

end
-- ==== Proof.SumKernelIdeal.lean ====
/-
  The second of the tile's two inner loops: sixteen voxels a trip, it sums the eight values gathered from either table,
  weighted, into the two result buffers.
-/
module

public import proofs.«01_k».proof.Proof.PrepKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Cert.Proof.Spec Cert.Proof.Lanes

variable {F : FTy → Type} [FloatOps F]

local notation "𝕄" => MT nD τ sig (HIx 1) (Elt F) ℕ UU ℕ

/-- A trip's number, below 256. -/
def trip3 (k : Fin k0_t3_loop.trips) : Fin 256 := ⟨k.val, Nat.lt_of_lt_of_le k.isLt k0_t3_abs.2.1⟩

omit [FloatOps F] in
theorem off3_zero (k : Fin k0_t3_loop.trips) : k0_off3 k 0 = 16 * (trip3 k).val := by rw [k0_off3_eq]; rfl

variable (wx wy wz : (Line 4096).Idx → F .f32) (p q : Fin 8 → (Line 4096).Idx → F .f32)

/-- Element `j`'s weighted sum of eight values. -/
def summed (j : (Line 4096).Idx) : F .f32 := dot8 (wts (wx j) (wy j) (wz j)) (fun c => p c j)

/-- Lane by lane, the values read are those of the chunk at the trip's sixteen positions. -/
theorem summed_lane (k : Fin 256) (l : (Line 16).Idx) (vx vy vz v0 v1 v2 v3 v4 v5 v6 v7 : (Line 16).Idx → F .f32)
    (hx : vx l = wx (lane k l)) (hy : vy l = wy (lane k l)) (hz : vz l = wz (lane k l))
    (h0 : v0 l = p 0 (lane k l)) (h1 : v1 l = p 1 (lane k l)) (h2 : v2 l = p 2 (lane k l)) (h3 : v3 l = p 3 (lane k l))
    (h4 : v4 l = p 4 (lane k l)) (h5 : v5 l = p 5 (lane k l)) (h6 : v6 l = p 6 (lane k l)) (h7 : v7 l = p 7 (lane k l)) :
    dot8 (wts (vx l) (vy l) (vz l)) ![v0 l, v1 l, v2 l, v3 l, v4 l, v5 l, v6 l, v7 l] = summed wx wy wz p (lane k l) := by
  unfold summed
  rw [hx, hy, hz, h0, h1, h2, h3, h4, h5, h6, h7]
  congr 1
  funext c
  fin_cases c <;> rfl

/-- The twenty-one buffers after `k` trips, from result buffers `f` and `g`. -/
def sumInv (d : Dev nD) (L : grid0.Coords) (f g : (Line 4096).Idx → F .f32) (k : ℕ) (_ : Unit) : sProp 𝕄 :=
  iprop(own d L wxM wx ∗ own d L wyM wy ∗ own d L wzM wz
    ∗ own d L a0M (p 0) ∗ own d L a1M (p 1) ∗ own d L a2M (p 2) ∗ own d L a3M (p 3) ∗ own d L a4M (p 4) ∗ own d L a5M (p 5) ∗ own d L a6M (p 6) ∗ own d L a7M (p 7)
    ∗ own d L b0M (q 0) ∗ own d L b1M (q 1) ∗ own d L b2M (q 2) ∗ own d L b3M (q 3) ∗ own d L b4M (q 4) ∗ own d L b5M (q 5) ∗ own d L b6M (q 6) ∗ own d L b7M (q 7)
    ∗ own d L r0M (mix k (summed wx wy wz p) f) ∗ own d L r1M (mix k (summed wx wy wz q) g))

set_option maxHeartbeats 4000000 in
/-- One trip: sixteen sums of either table's values. -/
theorem sum_trip (d : Dev nD) (L : grid0.Coords) (f g : (Line 4096).Idx → F .f32) (k : Fin k0_t3_loop.trips) :
    sumInv wx wy wz p q d L f g k.val ()
      ⊢ wp frame (wpE (defs₀ (F := F)) 𝒱₀ (tile d L) none) Set.univ (sumProg (F := F) L k ())
          fun _ => sumInv wx wy wz p q d L f g (k.val + 1) () := by
  unfold sumProg k0_t3_body sumInv
  simp only [k0_part4_eq_skeleton, k0_part5_eq_skeleton]
  unfold k0_part4_skel k0_part5_skel
  have hx : ∀ l, View.readAt (Elt F) wxM.view (Rect.unit (s := S4096) (k0_off3 k) S16.size (k0_off3_inb k)).toLoadRect wx l = wx (lane (trip3 k) l) :=
    fun l => read_lane (Val := Elt F) wxM.view (off3_zero k) (k0_off3_inb k) wx l
  have hy : ∀ l, View.readAt (Elt F) wyM.view (Rect.unit (s := S4096) (k0_off3 k) S16.size (k0_off3_inb k)).toLoadRect wy l = wy (lane (trip3 k) l) :=
    fun l => read_lane (Val := Elt F) wyM.view (off3_zero k) (k0_off3_inb k) wy l
  have hz : ∀ l, View.readAt (Elt F) wzM.view (Rect.unit (s := S4096) (k0_off3 k) S16.size (k0_off3_inb k)).toLoadRect wz l = wz (lane (trip3 k) l) :=
    fun l => read_lane (Val := Elt F) wzM.view (off3_zero k) (k0_off3_inb k) wz l
  have ha0 : ∀ l, View.readAt (Elt F) a0M.view (Rect.unit (s := S4096) (k0_off3 k) S16.size (k0_off3_inb k)).toLoadRect (p 0) l = (p 0) (lane (trip3 k) l) :=
    fun l => read_lane (Val := Elt F) a0M.view (off3_zero k) (k0_off3_inb k) (p 0) l
  have ha1 : ∀ l, View.readAt (Elt F) a1M.view (Rect.unit (s := S4096) (k0_off3 k) S16.size (k0_off3_inb k)).toLoadRect (p 1) l = (p 1) (lane (trip3 k) l) :=
    fun l => read_lane (Val := Elt F) a1M.view (off3_zero k) (k0_off3_inb k) (p 1) l
  have ha2 : ∀ l, View.readAt (Elt F) a2M.view (Rect.unit (s := S4096) (k0_off3 k) S16.size (k0_off3_inb k)).toLoadRect (p 2) l = (p 2) (lane (trip3 k) l) :=
    fun l => read_lane (Val := Elt F) a2M.view (off3_zero k) (k0_off3_inb k) (p 2) l
  have ha3 : ∀ l, View.readAt (Elt F) a3M.view (Rect.unit (s := S4096) (k0_off3 k) S16.size (k0_off3_inb k)).toLoadRect (p 3) l = (p 3) (lane (trip3 k) l) :=
    fun l => read_lane (Val := Elt F) a3M.view (off3_zero k) (k0_off3_inb k) (p 3) l
  have ha4 : ∀ l, View.readAt (Elt F) a4M.view (Rect.unit (s := S4096) (k0_off3 k) S16.size (k0_off3_inb k)).toLoadRect (p 4) l = (p 4) (lane (trip3 k) l) :=
    fun l => read_lane (Val := Elt F) a4M.view (off3_zero k) (k0_off3_inb k) (p 4) l
  have ha5 : ∀ l, View.readAt (Elt F) a5M.view (Rect.unit (s := S4096) (k0_off3 k) S16.size (k0_off3_inb k)).toLoadRect (p 5) l = (p 5) (lane (trip3 k) l) :=
    fun l => read_lane (Val := Elt F) a5M.view (off3_zero k) (k0_off3_inb k) (p 5) l
  have ha6 : ∀ l, View.readAt (Elt F) a6M.view (Rect.unit (s := S4096) (k0_off3 k) S16.size (k0_off3_inb k)).toLoadRect (p 6) l = (p 6) (lane (trip3 k) l) :=
    fun l => read_lane (Val := Elt F) a6M.view (off3_zero k) (k0_off3_inb k) (p 6) l
  have ha7 : ∀ l, View.readAt (Elt F) a7M.view (Rect.unit (s := S4096) (k0_off3 k) S16.size (k0_off3_inb k)).toLoadRect (p 7) l = (p 7) (lane (trip3 k) l) :=
    fun l => read_lane (Val := Elt F) a7M.view (off3_zero k) (k0_off3_inb k) (p 7) l
  have hb0 : ∀ l, View.readAt (Elt F) b0M.view (Rect.unit (s := S4096) (k0_off3 k) S16.size (k0_off3_inb k)).toLoadRect (q 0) l = (q 0) (lane (trip3 k) l) :=
    fun l => read_lane (Val := Elt F) b0M.view (off3_zero k) (k0_off3_inb k) (q 0) l
  have hb1 : ∀ l, View.readAt (Elt F) b1M.view (Rect.unit (s := S4096) (k0_off3 k) S16.size (k0_off3_inb k)).toLoadRect (q 1) l = (q 1) (lane (trip3 k) l) :=
    fun l => read_lane (Val := Elt F) b1M.view (off3_zero k) (k0_off3_inb k) (q 1) l
  have hb2 : ∀ l, View.readAt (Elt F) b2M.view (Rect.unit (s := S4096) (k0_off3 k) S16.size (k0_off3_inb k)).toLoadRect (q 2) l = (q 2) (lane (trip3 k) l) :=
    fun l => read_lane (Val := Elt F) b2M.view (off3_zero k) (k0_off3_inb k) (q 2) l
  have hb3 : ∀ l, View.readAt (Elt F) b3M.view (Rect.unit (s := S4096) (k0_off3 k) S16.size (k0_off3_inb k)).toLoadRect (q 3) l = (q 3) (lane (trip3 k) l) :=
    fun l => read_lane (Val := Elt F) b3M.view (off3_zero k) (k0_off3_inb k) (q 3) l
  have hb4 : ∀ l, View.readAt (Elt F) b4M.view (Rect.unit (s := S4096) (k0_off3 k) S16.size (k0_off3_inb k)).toLoadRect (q 4) l = (q 4) (lane (trip3 k) l) :=
    fun l => read_lane (Val := Elt F) b4M.view (off3_zero k) (k0_off3_inb k) (q 4) l
  have hb5 : ∀ l, View.readAt (Elt F) b5M.view (Rect.unit (s := S4096) (k0_off3 k) S16.size (k0_off3_inb k)).toLoadRect (q 5) l = (q 5) (lane (trip3 k) l) :=
    fun l => read_lane (Val := Elt F) b5M.view (off3_zero k) (k0_off3_inb k) (q 5) l
  have hb6 : ∀ l, View.readAt (Elt F) b6M.view (Rect.unit (s := S4096) (k0_off3 k) S16.size (k0_off3_inb k)).toLoadRect (q 6) l = (q 6) (lane (trip3 k) l) :=
    fun l => read_lane (Val := Elt F) b6M.view (off3_zero k) (k0_off3_inb k) (q 6) l
  have hb7 : ∀ l, View.readAt (Elt F) b7M.view (Rect.unit (s := S4096) (k0_off3 k) S16.size (k0_off3_inb k)).toLoadRect (q 7) l = (q 7) (lane (trip3 k) l) :=
    fun l => read_lane (Val := Elt F) b7M.view (off3_zero k) (k0_off3_inb k) (q 7) l
  iintro ⟨Hx, Hy, Hz, A0, A1, A2, A3, A4, A5, A6, A7, B0, B1, B2, B3, B4, B5, B6, B7, R0, R1⟩
  sl_exec
  sl_step
  isplitl [Hx]; · iexact Hx
  isplitl [Hy]; · iexact Hy
  isplitl [Hz]; · iexact Hz
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [R0]
  · iapply (Entails.of_eq (congrArg (own d L r0M) (read_store (Val := Elt F) r0M.view (off3_zero k) (k0_off3_inb k)
      (mix k.val (summed wx wy wz p) f) _ (summed wx wy wz p) f rfl
      (fun l => (pay_r0 l _ _ _ _ _ _ _ _ _ _ _).trans (summed_lane wx wy wz p (trip3 k) l _ _ _ _ _ _ _ _ _ _ _
        (hx l) (hy l) (hz l) (ha0 l) (ha1 l) (ha2 l) (ha3 l) (ha4 l) (ha5 l) (ha6 l) (ha7 l)))))); iexact R0
  · iapply (Entails.of_eq (congrArg (own d L r1M) (read_store (Val := Elt F) r1M.view (off3_zero k) (k0_off3_inb k)
      (mix k.val (summed wx wy wz q) g) _ (summed wx wy wz q) g rfl
      (fun l => (pay_r1 l _ _ _ _ _ _ _ _ _ _ _).trans (summed_lane wx wy wz q (trip3 k) l _ _ _ _ _ _ _ _ _ _ _
        (hx l) (hy l) (hz l) (hb0 l) (hb1 l) (hb2 l) (hb3 l) (hb4 l) (hb5 l) (hb6 l) (hb7 l)))))); iexact R1

/-- The loop: every sum. -/
theorem sum_loop (d : Dev nD) (L : grid0.Coords) (f g : (Line 4096).Idx → F .f32) :
    sumInv wx wy wz p q d L f g 0 ()
      ⊢ wp frame (wpE (defs₀ (F := F)) 𝒱₀ (tile d L) none) Set.univ
          (Scf.Loop.for k0_t3_loop k0_t3_ok ⟨⟩ (sumProg (F := F) L))
          fun _ => sumInv wx wy wz p q d L f g 256 () := by
  iintro H
  sl_for (sumInv wx wy wz p q d L f g) $$ [H]
  case region => intro k _; exact sum_trip wx wy wz p q d L f g k
  isplitl [H]
  · iexact H
  iintro %_ HI
  iexact HI

end Cert.Proof.WarpKernelIdeal

end
-- ==== Proof.GatherKernelIdeal.lean ====
/-
  The tile's sixteen indirect gathers, all on one semaphore: each lays one table's entries, named by one of the eight
  lists, into one buffer. They are a batch of 16 · 4096 row transfers; the waits follow the last of them.
-/
module

public import proofs.«01_k».proof.Proof.SumKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Transfers
open Cert.Proof.Spec Cert.Proof.Lanes Cert.Proof.GatherBatch

variable {F : FTy → Type} [FloatOps F]

local notation "𝕄" => MT nD τ sig (HIx 1) (Elt F) ℕ UU ℕ

variable (d : Dev nD) (L : grid0.Coords)

/-- A row of a gather along the one axis of a line is one element. -/
abbrev lineRow (dst : Memref sig .scVector .vmem S4096 .f32) (j : Fin 4096) :=
  dst.slice (S4096.rowRect (Shape.Gathers.axis' gathers_S2197000_S4096) j) (S4096.stride_rowRect (Shape.Gathers.axis' gathers_S2197000_S4096) j)

/-- One gather: the table, the buffer it fills, the list; the shares of table and list it reads at; their contents. -/
structure Job where
  src : Memref sig .scVector .hbm S2197000 .f32
  dst : Memref sig .scVector .vmem S4096 .f32
  offs : Memref sig .scVector .vmem S4096 .i32
  q : PosShare TreeShare
  qo : PosShare TreeShare
  fs : Buf (Elt F) (src.view.loc (tile d L))
  fd : Buf (Elt F) (dst.view.loc (tile d L))
  fo : Buf (Elt F) (offs.view.loc (tile d L))
  inRange : ∀ x, (offs.view.read (Elt F) fo x).toNat < 2197000
  rowCredit : ∀ j : Fin 4096, (lineRow dst j).view.dmaCredit = 32
  wholeCredit : dst.view.dmaCredit = 4096 * 32

variable {d L}

/-- What a gather takes: its table and list at their shares, its buffer. -/
def Job.input (J : Job (F := F) d L) : sProp 𝕄 :=
  iprop((J.src.view.loc (tile d L) ↦[J.src.view.set]{J.q} J.fs) ∗ (J.dst.view.loc (tile d L) ↦[J.dst.view.set]{fullShare} J.fd)
    ∗ (J.offs.view.loc (tile d L) ↦[J.offs.view.set]{J.qo} J.fo))

/-- What row `j` of a gather brings back. -/
def Job.row (J : Job (F := F) d L) (j : Fin 4096) : sProp 𝕄 :=
  gatherRow (tile d L) J.src J.dst gathers_S2197000_S4096 J.offs rfl (by decide) J.q J.qo J.fs J.fd J.fo J.inRange j

instance (J : Job (F := F) d L) (j : Fin 4096) : Storable (upEmb : UEmb _ 𝕄) (J.row j) := by
  unfold Job.row
  exact gatherRow_storable (tile d L) J.src J.dst gathers_S2197000_S4096 J.offs rfl (by decide) J.q J.qo J.fs J.fd J.fo J.inRange j

/-- What a gather leaves in its buffer. -/
def Job.landed (J : Job (F := F) d L) : S4096.Idx → F .f32 :=
  SparseCore.gatherPayload gathers_S2197000_S4096 (J.src.view.read (Elt F) J.fs)
    (SparseCore.rows (J.offs.view.read (Elt F) J.fo) (o := 4096) rfl J.inRange)

/-- What a gather brings back: its table and list, its buffer filled. -/
def Job.output (J : Job (F := F) d L) : sProp 𝕄 :=
  iprop((J.dst.view.loc (tile d L) ↦[J.dst.view.set]{fullShare} J.dst.view.write (Elt F) J.fd J.landed Finset.univ)
    ∗ (J.src.view.loc (tile d L) ↦[J.src.view.set]{J.q} J.fs) ∗ (J.offs.view.loc (tile d L) ↦[J.offs.view.set]{J.qo} J.fo))

/-- A gather's rows together are what it brings back. -/
theorem Job.join (J : Job (F := F) d L) : bigSep Finset.univ J.row ⊢ J.output :=
  gatherRows_join (tile d L) J.src J.dst gathers_S2197000_S4096 J.offs rfl (by decide) J.q J.qo J.fs J.fd J.fo J.inRange

variable (jobs : Fin 16 → Job (F := F) d L)

/-- What the batch's transfer `t` brings back: row `t mod 4096` of gather `t / 4096`. -/
def delivery (t : Fin 65536) : sProp 𝕄 :=
  (jobs ⟨t.val / 4096, by omega⟩).row ⟨t.val % 4096, Nat.mod_lt _ (by decide)⟩

instance (t : Fin 65536) : Storable (upEmb : UEmb _ 𝕄) (delivery jobs t) := by unfold delivery; infer_instance

theorem delivery_shift (i : Fin 16) (j : Fin 4096) (h : 4096 * i.val + 4096 ≤ 65536) : delivery jobs (shift h j) = (jobs i).row j := by
  unfold delivery
  have e1 : (⟨(shift h j).val / 4096, by omega⟩ : Fin 16) = i := Fin.ext (by show (4096 * i.val + j.val) / 4096 = i.val; omega)
  have e2 : (⟨(shift h j).val % 4096, Nat.mod_lt _ (by decide)⟩ : Fin 4096) = j :=
    Fin.ext (by show (4096 * i.val + j.val) % 4096 = j.val; omega)
  rw [e1, e2]

/-- All that the batch brings back is what each gather brings back. -/
theorem deliveries : bigSep Finset.univ (delivery jobs) ⊢ bigSep Finset.univ fun i => (jobs i).output := by
  have e : ∀ i : Fin 16, ∀ j : Fin 4096, delivery jobs ((finProdFinEquiv (m := 16) (n := 4096)) (i, j)) = (jobs i).row j := fun i j => by
    rw [← delivery_shift jobs i j (by omega)]
    congr 1
    exact Fin.ext (by show j.val + 4096 * i.val = 4096 * i.val + j.val; omega)
  rw [bigSep_univ_equiv (finProdFinEquiv (m := 16) (n := 4096)) (delivery jobs), bigSep_univ_prod]
  refine bigSep_mono fun i _ => ?_
  refine (Entails.of_eq (bigSep_congr fun j _ => e i j)).trans (jobs i).join

/-- The batch, `i` gathers issued and `w` of them waited for. -/
abbrev batch (i w : ℕ) : sProp 𝕄 :=
  Batch (countersEmb : UEmb Counters 𝕄) (tile d L) (.dma cc0_scratch29.sem) (default : HIx 1) 32 (delivery jobs) (4096 * i) (4096 * 32 * w)

/-- The batch's count after one more gather. -/
theorem issued_succ (i : ℕ) : 4096 * i + S4096.size (Shape.Gathers.axis' gathers_S2197000_S4096) = 4096 * (i + 1) :=
  (Nat.mul_succ 4096 i).symm

theorem step_fits (i : Fin 16) : 4096 * i.val + S4096.size (Shape.Gathers.axis' gathers_S2197000_S4096) ≤ 65536 := by
  rw [issued_succ]; have := i.isLt; omega

/-- Gather `i` of the batch. -/
theorem gather_step {α : Type} {Q : α → sProp 𝕄} (i : Fin 16) (J : Job (F := F) d L) (hJ : jobs i = J)
    {hsrc : J.src.view.WordExact} {hn : S4096.numel = S4096.size (Shape.Gathers.axis' gathers_S2197000_S4096)} {hr : S2197000.StreamRows 0}
    {k : PUnit → Prog (TpuEff nD τ sig (Elt F) Λ₀ (tile d L).2) α} :
    iprop(bigSep (pending i.val) (fun i => (jobs i).input) ∗ batch jobs i.val 0)
      ⊢ iprop((iprop(bigSep (pending (i.val + 1)) (fun i => (jobs i).input) ∗ batch jobs (i.val + 1) 0)
            -∗ wp frame (wpE (defs₀ (F := F)) 𝒱₀ (tile d L) none) Set.univ (k ⟨⟩) Q)
          -∗ wp frame (wpE (defs₀ (F := F)) 𝒱₀ (tile d L) none) Set.univ
            (SparseCore.enqueueIndirectGather rfl J.src J.dst gathers_S2197000_S4096 J.offs hn cc0_scratch29.sem hsrc rfl (Or.inl rfl) hr >>= k) Q) := by
  have step := wp_gatherBatch (defs := defs₀ (F := F)) (countersEmb : UEmb Counters 𝕄) 𝒱₀ (tile d L) none (src := J.src) (dst := J.dst) (offs := J.offs)
    (hg := gathers_S2197000_S4096) (hn := hn) (sem := cc0_scratch29.sem) (hp := rfl) (hsrc := hsrc) (he := rfl) (hsp := Or.inl rfl) (hr := hr) (k := k) (Q := Q)
    (q := J.q) (qo := J.qo) (fs := J.fs) (fd := J.fd) (fo := J.fo) (n := 65536) (D := delivery jobs) (k₀ := 4096 * i.val) (u := 4096 * 32 * 0)
    (default : HIx 1) 32 J.rowCredit (by decide) J.inRange (step_fits i) (Nat.zero_le _)
    (fun j => Entails.of_eq (by rw [← hJ]; exact (delivery_shift jobs i j (step_fits i)).symm))
  rw [issued_succ] at step
  rw [bigSep_pending_step _ i.val i.isLt, show jobs ⟨i.val, i.isLt⟩ = J from hJ]
  iintro ⟨⟨Hin, Hrest⟩, HB⟩ Hk
  unfold Job.input
  icases Hin with ⟨Hs, Hd, Ho⟩
  iapply step $$ [Hs Hd Ho HB]
  · isplitl [Hs]; · iexact Hs
    isplitl [Hd]; · iexact Hd
    isplitl [Ho]; · iexact Ho
    iexact HB
  iintro HB
  iapply Hk
  isplitl [Hrest]; · iexact Hrest
  iexact HB

/-- A wait for one gather's worth, all sixteen issued. -/
theorem wait_step {α : Type} {Q : α → sProp 𝕄} (w : ℕ) (hw : w < 16) (dst : Memref sig .scVector .vmem S4096 .f32)
    (src : Memref sig .scVector .hbm S2197000 .f32)
    (hc : dst.view.dmaCredit = 4096 * 32) {hsrc : src.view.WordExact} {hdst : dst.view.WordExact}
    {k : PUnit → Prog (TpuEff nD τ sig (Elt F) Λ₀ (tile d L).2) α} {O : CellTallies nD τ sig (HIx 1)} {W : Waits sig (HIx 1)} :
    iprop(batch jobs 16 w ∗ owes (tile d L) O W ∗ MayWait (tile d L) (.dma cc0_scratch29.sem) (default : HIx 1) O)
      ⊢ iprop((iprop(batch jobs 16 (w + 1) ∗ owes (tile d L) O (insert (SemLoc.dma cc0_scratch29.sem, (default : HIx 1)) W))
            -∗ wp frame (wpE (defs₀ (F := F)) 𝒱₀ (tile d L) none) Set.univ (k ⟨⟩) Q)
          -∗ wp frame (wpE (defs₀ (F := F)) 𝒱₀ (tile d L) none) Set.univ
            (SparseCore.waitIndirectGather cc0_scratch29.sem src dst hsrc hdst >>= k) Q) :=
  wp_waitBatchMulO (countersEmb : UEmb Counters 𝕄) 𝒱₀ (tile d L) none (default : HIx 1) (N := 32) 4096 hc (by omega)

end Cert.Proof.WarpKernelIdeal

end
-- ==== Proof.JobsKernelIdeal.lean ====
/-
  The sixteen gathers at the tile's buffers: what the tile hands in, and what it holds when all of them have landed.
-/
module

public import proofs.«01_k».proof.Proof.Tables
public import proofs.«01_k».proof.Proof.GatherKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Transfers
open Cert.Proof.Spec Cert.Proof.Lanes Cert.Proof.GatherBatch Cert.Proof.Tables

variable {F : FTy → Type} [FloatOps F]

local notation "𝕄" => MT nD τ sig (HIx 1) (Elt F) ℕ UU ℕ

/-- Each table, all of it, as the gathers name it. -/
abbrev s0M : Memref sig .scVector .hbm S2197000 .f32 :=
  t0M.slice (Rect.unit (s := S2197000) ![0] S2197000.size inb_S2197000_S2197000_0) (fun _ => rfl)
abbrev s1M : Memref sig .scVector .hbm S2197000 .f32 :=
  t1M.slice (Rect.unit (s := S2197000) ![0] S2197000.size inb_S2197000_S2197000_0) (fun _ => rfl)

omit [FloatOps F] in
theorem all_emb (x : (Line 2197000).Idx) : (Rect.unit (s := S2197000) ![0] S2197000.size inb_S2197000_S2197000_0).emb x = x := by
  funext a; obtain rfl : a = 0 := Subsingleton.elim _ _
  apply Fin.ext; rw [Rect.emb_apply]
  show 0 + 1 * (x 0).val = (x 0).val
  omega

omit [FloatOps F] in
theorem all_set : (Rect.unit (s := S2197000) ![0] S2197000.size inb_S2197000_S2197000_0).set = Finset.univ := by
  rw [← Rect.map_emb_univ]
  ext x; simp only [Finset.mem_map, Finset.mem_univ, true_and, iff_true]
  exact ⟨x, all_emb x⟩

section Landed

variable {d : Dev nD} {L : grid0.Coords}

/-- Element `x` of what a gather leaves is the table's at the position the list's word `x` names. -/
theorem Job.landed_apply (J : Job (F := F) d L) (x : (Line 4096).Idx) :
    J.landed x = J.src.view.read (Elt F) J.fs (pt (J.offs.view.read (Elt F) J.fo x).toNat (J.inRange x)) := by
  unfold Job.landed SparseCore.gatherPayload
  congr 1
  funext a; obtain rfl : a = 0 := Subsingleton.elim _ _
  apply Fin.ext
  have hx : (S4096.rowMajor.symm ((x 0).cast rfl) : S4096.Idx) = x := by
    rw [Equiv.symm_apply_eq]; exact Fin.ext (Shape.rowMajor_val_one x).symm
  have e : ((Shape.Gathers.idx gathers_S2197000_S4096 (SparseCore.rows (J.offs.view.read (Elt F) J.fo) (o := 4096) rfl J.inRange) x) 0).val
      = (J.offs.view.read (Elt F) J.fo (S4096.rowMajor.symm ((x 0).cast rfl))).toNat := rfl
  exact e.trans (congrArg (fun y => (J.offs.view.read (Elt F) J.fo y).toNat) hx)

end Landed

variable (d : Dev nD) (L : grid0.Coords)

/-- A table at a share is eight smaller shares of it, as the gathers name it. -/
theorem table0_parts (q : PosShare TreeShare) (f : Buf (Elt F) (t0M.view.loc (tile d L))) :
    (t0M.view.loc (tile d L) ↦{q} f : sProp 𝕄)
      = bigSep Finset.univ fun c : Fin 8 => (s0M.view.loc (tile d L) ↦[s0M.view.set]{ShareLeaves.leaf 3 q c} f) := by
  rw [show (s0M.view.set : Finset S2197000.Idx) = Finset.univ from (View.set_slice_whole main_v3_scv _).trans all_set]
  exact ShareLeaves.pointsTo_leaves Finset.univ f 3 q

theorem table1_parts (q : PosShare TreeShare) (f : Buf (Elt F) (t1M.view.loc (tile d L))) :
    (t1M.view.loc (tile d L) ↦{q} f : sProp 𝕄)
      = bigSep Finset.univ fun c : Fin 8 => (s1M.view.loc (tile d L) ↦[s1M.view.set]{ShareLeaves.leaf 3 q c} f) := by
  rw [show (s1M.view.set : Finset S2197000.Idx) = Finset.univ from (View.set_slice_whole main_v6_scv _).trans all_set]
  exact ShareLeaves.pointsTo_leaves Finset.univ f 3 q

/-- A list is its two halves. -/
theorem list_halves (m : Memref sig .scVector .vmem S4096 .i32) (hm : m.view.set = Finset.univ) (f : Buf (Elt F) (m.view.loc (tile d L))) :
    own d L m f = iprop((m.view.loc (tile d L) ↦[m.view.set]{(fullShare : PosShare TreeShare).left} f)
      ∗ (m.view.loc (tile d L) ↦[m.view.set]{(fullShare : PosShare TreeShare).right} f)) := by
  rw [hm]
  exact BI.Entails.antisymm (pointsTo_share (PosShare.mem_left_op_right fullShare)).1 (pointsTo_share (PosShare.mem_left_op_right fullShare)).2

theorem own_set (m : Memref sig .scVector .vmem S4096 .f32) (hm : m.view.set = Finset.univ) (f : Buf (Elt F) (m.view.loc (tile d L))) :
    own d L m f = (m.view.loc (tile d L) ↦[m.view.set]{fullShare} f : sProp 𝕄) := by rw [hm]

variable (q0 q1 : PosShare TreeShare) (T0 : Buf (Elt F) (t0M.view.loc (tile d L))) (T1 : Buf (Elt F) (t1M.view.loc (tile d L)))
  (g : Fin 8 → (Line 4096).Idx → BitVec 32) (hg : ∀ c x, (g c x).toNat < 2197000) (fa fb : Fin 8 → (Line 4096).Idx → F .f32)

/-- The gathers of the first table, by corner, -/
def jobsA : Fin 8 → Job (F := F) d L := ![
  ⟨s0M, a0M, i0M, ShareLeaves.leaf 3 q0 0, fullShare.left, T0, fa 0, g 0, hg 0, fun _ => rfl, rfl⟩,
  ⟨s0M, a1M, i1M, ShareLeaves.leaf 3 q0 1, fullShare.left, T0, fa 1, g 1, hg 1, fun _ => rfl, rfl⟩,
  ⟨s0M, a2M, i2M, ShareLeaves.leaf 3 q0 2, fullShare.left, T0, fa 2, g 2, hg 2, fun _ => rfl, rfl⟩,
  ⟨s0M, a3M, i3M, ShareLeaves.leaf 3 q0 3, fullShare.left, T0, fa 3, g 3, hg 3, fun _ => rfl, rfl⟩,
  ⟨s0M, a4M, i4M, ShareLeaves.leaf 3 q0 4, fullShare.left, T0, fa 4, g 4, hg 4, fun _ => rfl, rfl⟩,
  ⟨s0M, a5M, i5M, ShareLeaves.leaf 3 q0 5, fullShare.left, T0, fa 5, g 5, hg 5, fun _ => rfl, rfl⟩,
  ⟨s0M, a6M, i6M, ShareLeaves.leaf 3 q0 6, fullShare.left, T0, fa 6, g 6, hg 6, fun _ => rfl, rfl⟩,
  ⟨s0M, a7M, i7M, ShareLeaves.leaf 3 q0 7, fullShare.left, T0, fa 7, g 7, hg 7, fun _ => rfl, rfl⟩]

/-- of the second, -/
def jobsB : Fin 8 → Job (F := F) d L := ![
  ⟨s1M, b0M, i0M, ShareLeaves.leaf 3 q1 0, fullShare.right, T1, fb 0, g 0, hg 0, fun _ => rfl, rfl⟩,
  ⟨s1M, b1M, i1M, ShareLeaves.leaf 3 q1 1, fullShare.right, T1, fb 1, g 1, hg 1, fun _ => rfl, rfl⟩,
  ⟨s1M, b2M, i2M, ShareLeaves.leaf 3 q1 2, fullShare.right, T1, fb 2, g 2, hg 2, fun _ => rfl, rfl⟩,
  ⟨s1M, b3M, i3M, ShareLeaves.leaf 3 q1 3, fullShare.right, T1, fb 3, g 3, hg 3, fun _ => rfl, rfl⟩,
  ⟨s1M, b4M, i4M, ShareLeaves.leaf 3 q1 4, fullShare.right, T1, fb 4, g 4, hg 4, fun _ => rfl, rfl⟩,
  ⟨s1M, b5M, i5M, ShareLeaves.leaf 3 q1 5, fullShare.right, T1, fb 5, g 5, hg 5, fun _ => rfl, rfl⟩,
  ⟨s1M, b6M, i6M, ShareLeaves.leaf 3 q1 6, fullShare.right, T1, fb 6, g 6, hg 6, fun _ => rfl, rfl⟩,
  ⟨s1M, b7M, i7M, ShareLeaves.leaf 3 q1 7, fullShare.right, T1, fb 7, g 7, hg 7, fun _ => rfl, rfl⟩]

/-- and all of them in order: corner by corner, from one table and from the other. -/
def jobs (i : Fin 16) : Job (F := F) d L :=
  if i.val % 2 = 0 then jobsA d L q0 T0 g hg fa ⟨i.val / 2, by omega⟩ else jobsB d L q1 T1 g hg fb ⟨i.val / 2, by omega⟩

theorem jobs_even (c : Fin 8) : jobs d L q0 q1 T0 T1 g hg fa fb ⟨2 * c.val, by omega⟩ = jobsA d L q0 T0 g hg fa c := by
  unfold jobs; rw [if_pos (by simp)]; congr 1; apply Fin.ext; show 2 * c.val / 2 = c.val; omega

theorem jobs_odd (c : Fin 8) : jobs d L q0 q1 T0 T1 g hg fa fb ⟨2 * c.val + 1, by omega⟩ = jobsB d L q1 T1 g hg fb c := by
  unfold jobs; rw [if_neg (by show ¬ (2 * c.val + 1) % 2 = 0; omega)]; congr 1; apply Fin.ext; show (2 * c.val + 1) / 2 = c.val; omega

/-- Over the sixteen gathers is, over the corners, over the two tables. -/
theorem over_jobs (Φ : Job (F := F) d L → sProp 𝕄) :
    (bigSep Finset.univ fun i => Φ (jobs d L q0 q1 T0 T1 g hg fa fb i))
      = bigSep Finset.univ fun c : Fin 8 => iprop(Φ (jobsA d L q0 T0 g hg fa c) ∗ Φ (jobsB d L q1 T1 g hg fb c)) := by
  rw [bigSep_pairs]
  refine bigSep_congr fun c _ => ?_
  rw [jobs_even, jobs_odd]

section Corner

variable (a b : Memref sig .scVector .vmem S4096 .f32) (i : Memref sig .scVector .vmem S4096 .i32)
  (ha : a.view.set = Finset.univ) (hb : b.view.set = Finset.univ) (hci : i.view.set = Finset.univ) (u v : PosShare TreeShare)
  (f0 : Buf (Elt F) (a.view.loc (tile d L))) (f1 : Buf (Elt F) (b.view.loc (tile d L))) (l : Buf (Elt F) (i.view.loc (tile d L)))
  (hl : ∀ x, (i.view.read (Elt F) l x).toNat < 2197000)
  (ra : ∀ j : Fin 4096, (lineRow a j).view.dmaCredit = 32) (wa : a.view.dmaCredit = 4096 * 32)
  (rb : ∀ j : Fin 4096, (lineRow b j).view.dmaCredit = 32) (wb : b.view.dmaCredit = 4096 * 32)

/-- A buffer filled from a table is at the entries the list names. -/
theorem landed0 : (⟨s0M, a, i, u, (fullShare : PosShare TreeShare).left, T0, f0, l, hl, ra, wa⟩ : Job (F := F) d L).landed
    = fun x => tab (T0 : (Line 2197000).Idx → F .f32) (i.view.read (Elt F) l x) := by
  funext x
  refine (Job.landed_apply _ x).trans ((congrArg (T0 : (Line 2197000).Idx → F .f32) (all_emb _)).trans (tab_of_lt (T0 : (Line 2197000).Idx → F .f32) _ (hl x)).symm)

theorem landed1 : (⟨s1M, b, i, v, (fullShare : PosShare TreeShare).right, T1, f1, l, hl, rb, wb⟩ : Job (F := F) d L).landed
    = fun x => tab (T1 : (Line 2197000).Idx → F .f32) (i.view.read (Elt F) l x) := by
  funext x
  refine (Job.landed_apply _ x).trans ((congrArg (T1 : (Line 2197000).Idx → F .f32) (all_emb _)).trans (tab_of_lt (T1 : (Line 2197000).Idx → F .f32) _ (hl x)).symm)

include ha hb hci

/-- The gathers of one corner, from its two buffers, its list and shares of the tables; -/
theorem corner_in :
    iprop((s0M.view.loc (tile d L) ↦[s0M.view.set]{u} T0) ∗ (s1M.view.loc (tile d L) ↦[s1M.view.set]{v} T1)
        ∗ own d L i l ∗ own d L a f0 ∗ own d L b f1)
      ⊢ iprop((⟨s0M, a, i, u, (fullShare : PosShare TreeShare).left, T0, f0, l, hl, ra, wa⟩ : Job (F := F) d L).input
        ∗ (⟨s1M, b, i, v, (fullShare : PosShare TreeShare).right, T1, f1, l, hl, rb, wb⟩ : Job (F := F) d L).input) := by
  rw [list_halves d L i hci, own_set d L a ha, own_set d L b hb]
  unfold Job.input
  iintro ⟨S, T, ⟨L, R⟩, A, B⟩
  isplitl [S A L]
  · isplitl [S]; · iexact S
    isplitl [A]; · iexact A
    iexact L
  isplitl [T]; · iexact T
  isplitl [B]; · iexact B
  iexact R

/-- and back from what they bring. -/
theorem corner_out :
    iprop((⟨s0M, a, i, u, (fullShare : PosShare TreeShare).left, T0, f0, l, hl, ra, wa⟩ : Job (F := F) d L).output
        ∗ (⟨s1M, b, i, v, (fullShare : PosShare TreeShare).right, T1, f1, l, hl, rb, wb⟩ : Job (F := F) d L).output)
      ⊢ iprop((s0M.view.loc (tile d L) ↦[s0M.view.set]{u} T0) ∗ (s1M.view.loc (tile d L) ↦[s1M.view.set]{v} T1)
        ∗ own d L i l
        ∗ own d L a (a.view.write (Elt F) f0 (⟨s0M, a, i, u, (fullShare : PosShare TreeShare).left, T0, f0, l, hl, ra, wa⟩ : Job (F := F) d L).landed Finset.univ)
        ∗ own d L b (b.view.write (Elt F) f1 (⟨s1M, b, i, v, (fullShare : PosShare TreeShare).right, T1, f1, l, hl, rb, wb⟩ : Job (F := F) d L).landed Finset.univ)) := by
  rw [list_halves d L i hci, own_set d L a ha, own_set d L b hb]
  unfold Job.output
  iintro ⟨⟨A, S, L⟩, ⟨B, T, R⟩⟩
  isplitl [S]; · iexact S
  isplitl [T]; · iexact T
  isplitl [L R]; · (isplitl [L]; · iexact L); iexact R
  isplitl [A]; · iexact A
  iexact B

end Corner

/-- What the tile holds before the gathers: the tables at its shares, the lists, the sixteen buffers. -/
def gatherPre : sProp 𝕄 :=
  iprop((t0M.view.loc (tile d L) ↦{q0} T0) ∗ (t1M.view.loc (tile d L) ↦{q1} T1)
    ∗ own d L i0M (g 0) ∗ own d L i1M (g 1) ∗ own d L i2M (g 2) ∗ own d L i3M (g 3) ∗ own d L i4M (g 4) ∗ own d L i5M (g 5) ∗ own d L i6M (g 6) ∗ own d L i7M (g 7)
    ∗ own d L a0M (fa 0) ∗ own d L a1M (fa 1) ∗ own d L a2M (fa 2) ∗ own d L a3M (fa 3) ∗ own d L a4M (fa 4) ∗ own d L a5M (fa 5) ∗ own d L a6M (fa 6) ∗ own d L a7M (fa 7)
    ∗ own d L b0M (fb 0) ∗ own d L b1M (fb 1) ∗ own d L b2M (fb 2) ∗ own d L b3M (fb 3) ∗ own d L b4M (fb 4) ∗ own d L b5M (fb 5) ∗ own d L b6M (fb 6) ∗ own d L b7M (fb 7))

/-- The entries of a table that the lists name. -/
def looked (T : (Line 2197000).Idx → F .f32) (c : Fin 8) (x : (Line 4096).Idx) : F .f32 := tab T (g c x)
set_option maxHeartbeats 2000000 in
/-- What the tile holds is what the gathers take. -/
theorem gatherPre_input : gatherPre d L q0 q1 T0 T1 g fa fb ⊢ bigSep (pending 0) fun i => (jobs d L q0 q1 T0 T1 g hg fa fb i).input := by
  rw [← bigSep_pending_zero, over_jobs d L q0 q1 T0 T1 g hg fa fb Job.input, bigSep_eight]
  unfold gatherPre
  iintro ⟨S, T, L0, L1, L2, L3, L4, L5, L6, L7, A0, A1, A2, A3, A4, A5, A6, A7, B0, B1, B2, B3, B4, B5, B6, B7⟩
  ihave S := (Entails.of_eq ((table0_parts d L q0 T0).trans (bigSep_eight _))) $$ S
  ihave T := (Entails.of_eq ((table1_parts d L q1 T1).trans (bigSep_eight _))) $$ T
  icases S with ⟨S0, S1, S2, S3, S4, S5, S6, S7⟩
  icases T with ⟨T0, T1, T2, T3, T4, T5, T6, T7⟩
  isplitl [S0 T0 L0 A0 B0]
  · iapply (corner_in d L T0 T1 a0M b0M i0M (View.set_whole _) (View.set_whole _) (View.set_whole _) (ShareLeaves.leaf 3 q0 0) (ShareLeaves.leaf 3 q1 0)
      (fa 0) (fb 0) (g 0) (hg 0) (fun _ => rfl) rfl (fun _ => rfl) rfl)
    isplitl [S0]; · iexact S0
    isplitl [T0]; · iexact T0
    isplitl [L0]; · iexact L0
    isplitl [A0]; · iexact A0
    iexact B0
  isplitl [S1 T1 L1 A1 B1]
  · iapply (corner_in d L T0 T1 a1M b1M i1M (View.set_whole _) (View.set_whole _) (View.set_whole _) (ShareLeaves.leaf 3 q0 1) (ShareLeaves.leaf 3 q1 1)
      (fa 1) (fb 1) (g 1) (hg 1) (fun _ => rfl) rfl (fun _ => rfl) rfl)
    isplitl [S1]; · iexact S1
    isplitl [T1]; · iexact T1
    isplitl [L1]; · iexact L1
    isplitl [A1]; · iexact A1
    iexact B1
  isplitl [S2 T2 L2 A2 B2]
  · iapply (corner_in d L T0 T1 a2M b2M i2M (View.set_whole _) (View.set_whole _) (View.set_whole _) (ShareLeaves.leaf 3 q0 2) (ShareLeaves.leaf 3 q1 2)
      (fa 2) (fb 2) (g 2) (hg 2) (fun _ => rfl) rfl (fun _ => rfl) rfl)
    isplitl [S2]; · iexact S2
    isplitl [T2]; · iexact T2
    isplitl [L2]; · iexact L2
    isplitl [A2]; · iexact A2
    iexact B2
  isplitl [S3 T3 L3 A3 B3]
  · iapply (corner_in d L T0 T1 a3M b3M i3M (View.set_whole _) (View.set_whole _) (View.set_whole _) (ShareLeaves.leaf 3 q0 3) (ShareLeaves.leaf 3 q1 3)
      (fa 3) (fb 3) (g 3) (hg 3) (fun _ => rfl) rfl (fun _ => rfl) rfl)
    isplitl [S3]; · iexact S3
    isplitl [T3]; · iexact T3
    isplitl [L3]; · iexact L3
    isplitl [A3]; · iexact A3
    iexact B3
  isplitl [S4 T4 L4 A4 B4]
  · iapply (corner_in d L T0 T1 a4M b4M i4M (View.set_whole _) (View.set_whole _) (View.set_whole _) (ShareLeaves.leaf 3 q0 4) (ShareLeaves.leaf 3 q1 4)
      (fa 4) (fb 4) (g 4) (hg 4) (fun _ => rfl) rfl (fun _ => rfl) rfl)
    isplitl [S4]; · iexact S4
    isplitl [T4]; · iexact T4
    isplitl [L4]; · iexact L4
    isplitl [A4]; · iexact A4
    iexact B4
  isplitl [S5 T5 L5 A5 B5]
  · iapply (corner_in d L T0 T1 a5M b5M i5M (View.set_whole _) (View.set_whole _) (View.set_whole _) (ShareLeaves.leaf 3 q0 5) (ShareLeaves.leaf 3 q1 5)
      (fa 5) (fb 5) (g 5) (hg 5) (fun _ => rfl) rfl (fun _ => rfl) rfl)
    isplitl [S5]; · iexact S5
    isplitl [T5]; · iexact T5
    isplitl [L5]; · iexact L5
    isplitl [A5]; · iexact A5
    iexact B5
  isplitl [S6 T6 L6 A6 B6]
  · iapply (corner_in d L T0 T1 a6M b6M i6M (View.set_whole _) (View.set_whole _) (View.set_whole _) (ShareLeaves.leaf 3 q0 6) (ShareLeaves.leaf 3 q1 6)
      (fa 6) (fb 6) (g 6) (hg 6) (fun _ => rfl) rfl (fun _ => rfl) rfl)
    isplitl [S6]; · iexact S6
    isplitl [T6]; · iexact T6
    isplitl [L6]; · iexact L6
    isplitl [A6]; · iexact A6
    iexact B6
  iapply (corner_in d L T0 T1 a7M b7M i7M (View.set_whole _) (View.set_whole _) (View.set_whole _) (ShareLeaves.leaf 3 q0 7) (ShareLeaves.leaf 3 q1 7)
    (fa 7) (fb 7) (g 7) (hg 7) (fun _ => rfl) rfl (fun _ => rfl) rfl)
  isplitl [S7]; · iexact S7
  isplitl [T7]; · iexact T7
  isplitl [L7]; · iexact L7
  isplitl [A7]; · iexact A7
  iexact B7

theorem write_own (b : Ref sig .scVector) (f w : b.ty.Contents (Elt F)) : (View.whole b).write (Elt F) f w Finset.univ = w := View.write_whole_univ b f w

set_option maxHeartbeats 2000000 in
/-- What the gathers bring back is what the tile holds after them: each buffer at the entries its list names. -/
theorem output_gatherPost : (bigSep Finset.univ fun i => (jobs d L q0 q1 T0 T1 g hg fa fb i).output)
    ⊢ gatherPre d L q0 q1 T0 T1 g (looked g T0) (looked g T1) := by
  rw [over_jobs d L q0 q1 T0 T1 g hg fa fb Job.output, bigSep_eight]
  unfold gatherPre
  iintro ⟨J0, J1, J2, J3, J4, J5, J6, J7⟩
  ihave J0 := (show iprop((jobsA d L q0 T0 g hg fa 0).output ∗ (jobsB d L q1 T1 g hg fb 0).output) ⊢ _ from corner_out d L T0 T1 a0M b0M i0M (View.set_whole _) (View.set_whole _) (View.set_whole _) (ShareLeaves.leaf 3 q0 0) (ShareLeaves.leaf 3 q1 0)
    (fa 0) (fb 0) (g 0) (hg 0) (fun _ => rfl) rfl (fun _ => rfl) rfl) $$ J0
  icases J0 with ⟨S0, T0, L0, A0, B0⟩
  ihave J1 := (show iprop((jobsA d L q0 T0 g hg fa 1).output ∗ (jobsB d L q1 T1 g hg fb 1).output) ⊢ _ from corner_out d L T0 T1 a1M b1M i1M (View.set_whole _) (View.set_whole _) (View.set_whole _) (ShareLeaves.leaf 3 q0 1) (ShareLeaves.leaf 3 q1 1)
    (fa 1) (fb 1) (g 1) (hg 1) (fun _ => rfl) rfl (fun _ => rfl) rfl) $$ J1
  icases J1 with ⟨S1, T1, L1, A1, B1⟩
  ihave J2 := (show iprop((jobsA d L q0 T0 g hg fa 2).output ∗ (jobsB d L q1 T1 g hg fb 2).output) ⊢ _ from corner_out d L T0 T1 a2M b2M i2M (View.set_whole _) (View.set_whole _) (View.set_whole _) (ShareLeaves.leaf 3 q0 2) (ShareLeaves.leaf 3 q1 2)
    (fa 2) (fb 2) (g 2) (hg 2) (fun _ => rfl) rfl (fun _ => rfl) rfl) $$ J2
  icases J2 with ⟨S2, T2, L2, A2, B2⟩
  ihave J3 := (show iprop((jobsA d L q0 T0 g hg fa 3).output ∗ (jobsB d L q1 T1 g hg fb 3).output) ⊢ _ from corner_out d L T0 T1 a3M b3M i3M (View.set_whole _) (View.set_whole _) (View.set_whole _) (ShareLeaves.leaf 3 q0 3) (ShareLeaves.leaf 3 q1 3)
    (fa 3) (fb 3) (g 3) (hg 3) (fun _ => rfl) rfl (fun _ => rfl) rfl) $$ J3
  icases J3 with ⟨S3, T3, L3, A3, B3⟩
  ihave J4 := (show iprop((jobsA d L q0 T0 g hg fa 4).output ∗ (jobsB d L q1 T1 g hg fb 4).output) ⊢ _ from corner_out d L T0 T1 a4M b4M i4M (View.set_whole _) (View.set_whole _) (View.set_whole _) (ShareLeaves.leaf 3 q0 4) (ShareLeaves.leaf 3 q1 4)
    (fa 4) (fb 4) (g 4) (hg 4) (fun _ => rfl) rfl (fun _ => rfl) rfl) $$ J4
  icases J4 with ⟨S4, T4, L4, A4, B4⟩
  ihave J5 := (show iprop((jobsA d L q0 T0 g hg fa 5).output ∗ (jobsB d L q1 T1 g hg fb 5).output) ⊢ _ from corner_out d L T0 T1 a5M b5M i5M (View.set_whole _) (View.set_whole _) (View.set_whole _) (ShareLeaves.leaf 3 q0 5) (ShareLeaves.leaf 3 q1 5)
    (fa 5) (fb 5) (g 5) (hg 5) (fun _ => rfl) rfl (fun _ => rfl) rfl) $$ J5
  icases J5 with ⟨S5, T5, L5, A5, B5⟩
  ihave J6 := (show iprop((jobsA d L q0 T0 g hg fa 6).output ∗ (jobsB d L q1 T1 g hg fb 6).output) ⊢ _ from corner_out d L T0 T1 a6M b6M i6M (View.set_whole _) (View.set_whole _) (View.set_whole _) (ShareLeaves.leaf 3 q0 6) (ShareLeaves.leaf 3 q1 6)
    (fa 6) (fb 6) (g 6) (hg 6) (fun _ => rfl) rfl (fun _ => rfl) rfl) $$ J6
  icases J6 with ⟨S6, T6, L6, A6, B6⟩
  ihave J7 := (show iprop((jobsA d L q0 T0 g hg fa 7).output ∗ (jobsB d L q1 T1 g hg fb 7).output) ⊢ _ from corner_out d L T0 T1 a7M b7M i7M (View.set_whole _) (View.set_whole _) (View.set_whole _) (ShareLeaves.leaf 3 q0 7) (ShareLeaves.leaf 3 q1 7)
    (fa 7) (fb 7) (g 7) (hg 7) (fun _ => rfl) rfl (fun _ => rfl) rfl) $$ J7
  icases J7 with ⟨S7, T7, L7, A7, B7⟩
  isplitl [S0 S1 S2 S3 S4 S5 S6 S7]
  · iapply (Entails.of_eq ((table0_parts d L q0 T0).trans (bigSep_eight _)).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [T0 T1 T2 T3 T4 T5 T6 T7]
  · iapply (Entails.of_eq ((table1_parts d L q1 T1).trans (bigSep_eight _)).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [L0]; · iexact L0
  isplitl [L1]; · iexact L1
  isplitl [L2]; · iexact L2
  isplitl [L3]; · iexact L3
  isplitl [L4]; · iexact L4
  isplitl [L5]; · iexact L5
  isplitl [L6]; · iexact L6
  isplitl [L7]; · iexact L7
  isplitl [A0]
  · iapply (Entails.of_eq (congrArg (own d L a0M) ((write_own (F := F) cc0_scratch11 _ _).trans
(landed0 d L T0 a0M i0M (ShareLeaves.leaf 3 q0 0) (fa 0) (g 0) (hg 0) (fun _ => rfl) rfl)))); iexact A0
  isplitl [A1]
  · iapply (Entails.of_eq (congrArg (own d L a1M) ((write_own (F := F) cc0_scratch12 _ _).trans
(landed0 d L T0 a1M i1M (ShareLeaves.leaf 3 q0 1) (fa 1) (g 1) (hg 1) (fun _ => rfl) rfl)))); iexact A1
  isplitl [A2]
  · iapply (Entails.of_eq (congrArg (own d L a2M) ((write_own (F := F) cc0_scratch13 _ _).trans
(landed0 d L T0 a2M i2M (ShareLeaves.leaf 3 q0 2) (fa 2) (g 2) (hg 2) (fun _ => rfl) rfl)))); iexact A2
  isplitl [A3]
  · iapply (Entails.of_eq (congrArg (own d L a3M) ((write_own (F := F) cc0_scratch14 _ _).trans
(landed0 d L T0 a3M i3M (ShareLeaves.leaf 3 q0 3) (fa 3) (g 3) (hg 3) (fun _ => rfl) rfl)))); iexact A3
  isplitl [A4]
  · iapply (Entails.of_eq (congrArg (own d L a4M) ((write_own (F := F) cc0_scratch15 _ _).trans
(landed0 d L T0 a4M i4M (ShareLeaves.leaf 3 q0 4) (fa 4) (g 4) (hg 4) (fun _ => rfl) rfl)))); iexact A4
  isplitl [A5]
  · iapply (Entails.of_eq (congrArg (own d L a5M) ((write_own (F := F) cc0_scratch16 _ _).trans
(landed0 d L T0 a5M i5M (ShareLeaves.leaf 3 q0 5) (fa 5) (g 5) (hg 5) (fun _ => rfl) rfl)))); iexact A5
  isplitl [A6]
  · iapply (Entails.of_eq (congrArg (own d L a6M) ((write_own (F := F) cc0_scratch17 _ _).trans
(landed0 d L T0 a6M i6M (ShareLeaves.leaf 3 q0 6) (fa 6) (g 6) (hg 6) (fun _ => rfl) rfl)))); iexact A6
  isplitl [A7]
  · iapply (Entails.of_eq (congrArg (own d L a7M) ((write_own (F := F) cc0_scratch18 _ _).trans
(landed0 d L T0 a7M i7M (ShareLeaves.leaf 3 q0 7) (fa 7) (g 7) (hg 7) (fun _ => rfl) rfl)))); iexact A7
  isplitl [B0]
  · iapply (Entails.of_eq (congrArg (own d L b0M) ((write_own (F := F) cc0_scratch19 _ _).trans
(landed1 d L T1 b0M i0M (ShareLeaves.leaf 3 q1 0) (fb 0) (g 0) (hg 0) (fun _ => rfl) rfl)))); iexact B0
  isplitl [B1]
  · iapply (Entails.of_eq (congrArg (own d L b1M) ((write_own (F := F) cc0_scratch20 _ _).trans
(landed1 d L T1 b1M i1M (ShareLeaves.leaf 3 q1 1) (fb 1) (g 1) (hg 1) (fun _ => rfl) rfl)))); iexact B1
  isplitl [B2]
  · iapply (Entails.of_eq (congrArg (own d L b2M) ((write_own (F := F) cc0_scratch21 _ _).trans
(landed1 d L T1 b2M i2M (ShareLeaves.leaf 3 q1 2) (fb 2) (g 2) (hg 2) (fun _ => rfl) rfl)))); iexact B2
  isplitl [B3]
  · iapply (Entails.of_eq (congrArg (own d L b3M) ((write_own (F := F) cc0_scratch22 _ _).trans
(landed1 d L T1 b3M i3M (ShareLeaves.leaf 3 q1 3) (fb 3) (g 3) (hg 3) (fun _ => rfl) rfl)))); iexact B3
  isplitl [B4]
  · iapply (Entails.of_eq (congrArg (own d L b4M) ((write_own (F := F) cc0_scratch23 _ _).trans
(landed1 d L T1 b4M i4M (ShareLeaves.leaf 3 q1 4) (fb 4) (g 4) (hg 4) (fun _ => rfl) rfl)))); iexact B4
  isplitl [B5]
  · iapply (Entails.of_eq (congrArg (own d L b5M) ((write_own (F := F) cc0_scratch24 _ _).trans
(landed1 d L T1 b5M i5M (ShareLeaves.leaf 3 q1 5) (fb 5) (g 5) (hg 5) (fun _ => rfl) rfl)))); iexact B5
  isplitl [B6]
  · iapply (Entails.of_eq (congrArg (own d L b6M) ((write_own (F := F) cc0_scratch25 _ _).trans
(landed1 d L T1 b6M i6M (ShareLeaves.leaf 3 q1 6) (fb 6) (g 6) (hg 6) (fun _ => rfl) rfl)))); iexact B6
  iapply (Entails.of_eq (congrArg (own d L b7M) ((write_own (F := F) cc0_scratch26 _ _).trans
(landed1 d L T1 b7M i7M (ShareLeaves.leaf 3 q1 7) (fb 7) (g 7) (hg 7) (fun _ => rfl) rfl)))); iexact B7

end Cert.Proof.WarpKernelIdeal

end
-- ==== Proof.ChunkKernelIdeal.lean ====
/-
  One chunk of a tile's work: 4096 voxels' displacements copied in, turned into weights and positions, the sixteen
  gathers, the sums, and the two results copied out.
-/
module

public import proofs.«01_k».proof.Proof.JobsKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Transfers
open Cert.Proof.Spec Cert.Proof.Lanes Cert.Proof.GatherBatch Cert.Proof.Tables

variable {F : FTy → Type} [FloatOps F]

local notation "𝕄" => MT nD τ sig (HIx 1) (Elt F) ℕ UU ℕ

variable (d : Dev nD) (L : grid0.Coords)

/-- The 4096 voxels of chunk `t` of an array over all voxels. -/
abbrev chunkM (m : Memref sig .scVector .hbm S2097152 .f32) (t : Fin k0_t1_loop.trips) : Memref sig .scVector .hbm S4096 .f32 :=
  m.slice (Rect.unit (s := S2097152) (k0_off1 L t) S4096.size (k0_off1_inb L t)) (fun _ => rfl)

/-- The tile holds one of its buffers at some contents. -/
abbrev some_ {e : EltTy} (m : Memref sig .scVector .vmem S4096 e) : sProp 𝕄 := iprop(∃ f, own d L m f)

omit [FloatOps F] in
theorem some_intro {e : EltTy} (m : Memref sig .scVector .vmem S4096 e) (f : Buf (Elt F) (m.view.loc (tile d L))) :
    own d L m f ⊢ some_ (F := F) d L m := by
  iintro H
  iexists f
  iexact H

/-- The tile's buffers for displacements and weights, for positions, for gathered values of either table, for sums. -/
def scratch : sProp 𝕄 :=
  iprop(some_ (F := F) d L wxM ∗ some_ (F := F) d L wyM ∗ some_ (F := F) d L wzM
    ∗ some_ (F := F) d L i0M ∗ some_ (F := F) d L i1M ∗ some_ (F := F) d L i2M ∗ some_ (F := F) d L i3M ∗ some_ (F := F) d L i4M ∗ some_ (F := F) d L i5M ∗ some_ (F := F) d L i6M ∗ some_ (F := F) d L i7M
    ∗ some_ (F := F) d L a0M ∗ some_ (F := F) d L a1M ∗ some_ (F := F) d L a2M ∗ some_ (F := F) d L a3M ∗ some_ (F := F) d L a4M ∗ some_ (F := F) d L a5M ∗ some_ (F := F) d L a6M ∗ some_ (F := F) d L a7M
    ∗ some_ (F := F) d L b0M ∗ some_ (F := F) d L b1M ∗ some_ (F := F) d L b2M ∗ some_ (F := F) d L b3M ∗ some_ (F := F) d L b4M ∗ some_ (F := F) d L b5M ∗ some_ (F := F) d L b6M ∗ some_ (F := F) d L b7M
    ∗ some_ (F := F) d L r0M ∗ some_ (F := F) d L r1M)

/-- The tile's six semaphores, at zero. -/
def sems : sProp 𝕄 :=
  iprop(semVal (tile d L, .dma cc0_scratch29.sem) 0 ∗ semVal (tile d L, .dma cc0_scoped0.sem) 0 ∗ semVal (tile d L, .dma cc0_scoped1.sem) 0
    ∗ semVal (tile d L, .dma cc0_scoped2.sem) 0 ∗ semVal (tile d L, .dma cc0_scoped3.sem) 0 ∗ semVal (tile d L, .dma cc0_scoped4.sem) 0)

/-- The batch with its first `n` gathers issued, and what the others take. -/
def issued (jobs : Fin 16 → Job (F := F) d L) (n : ℕ) : sProp 𝕄 := iprop(bigSep (pending n) (fun i => (jobs i).input) ∗ batch jobs n 0)

/-- Gather `n` of the batch. -/
theorem gather_next {α : Type} {Q : α → sProp 𝕄} (jobs : Fin 16 → Job (F := F) d L) (n : ℕ) (hn : n < 16) (J : Job (F := F) d L) (hJ : jobs ⟨n, hn⟩ = J)
    {hsrc : J.src.view.WordExact} {hn : S4096.numel = S4096.size (Shape.Gathers.axis' gathers_S2197000_S4096)} {hr : S2197000.StreamRows 0}
    {k : PUnit → Prog (TpuEff nD τ sig (Elt F) Λ₀ (tile d L).2) α} :
    issued d L jobs n
      ⊢ iprop((issued d L jobs (n + 1) -∗ wp frame (wpE (defs₀ (F := F)) 𝒱₀ (tile d L) none) Set.univ (k ⟨⟩) Q)
          -∗ wp frame (wpE (defs₀ (F := F)) 𝒱₀ (tile d L) none) Set.univ
            (SparseCore.enqueueIndirectGather rfl J.src J.dst gathers_S2197000_S4096 J.offs hn cc0_scratch29.sem hsrc rfl (Or.inl rfl) hr >>= k) Q) :=
  gather_step jobs ⟨n, _⟩ J hJ

/-- The batch, all its gathers issued and `w` of them waited for, and the waits so far. -/
def awaited (jobs : Fin 16 → Job (F := F) d L) (O : CellTallies nD τ sig (HIx 1)) (W : Waits sig (HIx 1)) (w : ℕ) : sProp 𝕄 :=
  iprop(batch jobs 16 w ∗ ∃ W', ⌜∀ p ∈ W', p ∈ W ∨ p.2 = none⌝ ∗ owes (tile d L) O W')

/-- One wait. -/
theorem wait_next {α : Type} {Q : α → sProp 𝕄} (jobs : Fin 16 → Job (F := F) d L) (w : ℕ) (hw : w < 16) (dst : Memref sig .scVector .vmem S4096 .f32)
    (src : Memref sig .scVector .hbm S2197000 .f32)
    (hc : dst.view.dmaCredit = 4096 * 32) {hsrc : src.view.WordExact} {hdst : dst.view.WordExact}
    {k : PUnit → Prog (TpuEff nD τ sig (Elt F) Λ₀ (tile d L).2) α} {O : CellTallies nD τ sig (HIx 1)} {W : Waits sig (HIx 1)} :
    iprop(awaited d L jobs O W w ∗ MayWaits (tile d L) (default : HIx 1) O)
      ⊢ iprop((awaited d L jobs O W (w + 1) -∗ wp frame (wpE (defs₀ (F := F)) 𝒱₀ (tile d L) none) Set.univ (k ⟨⟩) Q)
          -∗ wp frame (wpE (defs₀ (F := F)) 𝒱₀ (tile d L) none) Set.univ
            (SparseCore.waitIndirectGather cc0_scratch29.sem src dst hsrc hdst >>= k) Q) := by
  unfold awaited
  iintro ⟨⟨HB, %W', %hW', HO⟩, Hmw⟩ Hk
  iapply (wait_step jobs w hw dst src hc) $$ [HB HO Hmw]
  · isplitl [HB]; · iexact HB
    isplitl [HO]; · iexact HO
    iapply (MayWaits.elim (SemLoc.dma cc0_scratch29.sem)) $$ Hmw
  iintro ⟨HB, HO⟩
  iapply Hk
  isplitl [HB]; · iexact HB
  iexists _; isplitr
  swap; · iexact HO
  ipureintro; intro p hp
  rcases Finset.mem_insert.mp hp with hp | hp; · exact .inr (hp ▸ rfl)
  exact hW' p hp

variable (q0 q1 q2 q3 q4 : PosShare TreeShare) (T0 : Buf (Elt F) (t0M.view.loc (tile d L))) (T1 : Buf (Elt F) (t1M.view.loc (tile d L)))
  (DX : Buf (Elt F) (gxM.view.loc (tile d L))) (DY : Buf (Elt F) (gyM.view.loc (tile d L))) (DZ : Buf (Elt F) (gzM.view.loc (tile d L)))
  (O : CellTallies nD τ sig (HIx 1)) (W : Waits sig (HIx 1)) (v2 : BitVec 32) (t : Fin k0_t1_loop.trips)

/-- A block after a copy over all of it, where what the copy brought is what `G` holds there. -/
theorem landed_out {κ : Kind} {sp : Space} {s : Shape} {e : EltTy} (v : View sig κ sp s e) (f G : v.ty.Contents (Elt F)) (p : s.Idx → Elt F e)
    (h : ∀ x, v.read (Elt F) G x = p x) : ∀ i ∈ v.set, v.writes (Elt F) f [⟨Rect.whole s, p⟩] i = G i := by
  intro i hi
  obtain ⟨x, -, rfl⟩ := Finset.mem_map.mp hi
  have e := v.read_writes_cons_emb (Val := Elt F) (f := f) (Rect.whole s) p [] x
  rw [Rect.emb_whole_apply, ← h x, View.read_apply, View.read_apply] at e
  exact (cast_inj _).mp e

/-- What the chunk reads: the two tables, its displacements. -/
def chunkIn : sProp 𝕄 :=
  iprop((t0M.view.loc (tile d L) ↦{q0} T0) ∗ (t1M.view.loc (tile d L) ↦{q1} T1)
    ∗ ((chunkM L gxM t).view.loc (tile d L) ↦[(chunkM L gxM t).view.set]{q2} DX)
    ∗ ((chunkM L gyM t).view.loc (tile d L) ↦[(chunkM L gyM t).view.set]{q3} DY)
    ∗ ((chunkM L gzM t).view.loc (tile d L) ↦[(chunkM L gzM t).view.set]{q4} DZ))

/-- The chunk's first position; -/
abbrev chunkPos : BitVec 32 := Scalar.addi v2 (Scalar.muli (Scf.iv 0#32 1#32 t) 4096#32)
/-- its displacements; -/
abbrev chunkX : (Line 4096).Idx → F .f32 := (chunkM L gxM t).view.read (Elt F) DX
abbrev chunkY : (Line 4096).Idx → F .f32 := (chunkM L gyM t).view.read (Elt F) DY
abbrev chunkZ : (Line 4096).Idx → F .f32 := (chunkM L gzM t).view.read (Elt F) DZ

variable (b : BitVec 32) (fx fy fz : (Line 4096).Idx → F .f32)

/-- The buffers before the first loop, -/
theorem prep_start (g : Fin 8 → (Line 4096).Idx → BitVec 32) :
    prepInv b fx fy fz d L g 0 () = iprop(own d L wxM fx ∗ own d L wyM fy ∗ own d L wzM fz
      ∗ own d L i0M (g 0) ∗ own d L i1M (g 1) ∗ own d L i2M (g 2) ∗ own d L i3M (g 3)
      ∗ own d L i4M (g 4) ∗ own d L i5M (g 5) ∗ own d L i6M (g 6) ∗ own d L i7M (g 7)) := by
  unfold prepInv; simp only [mix_zero]

/-- and after it. -/
theorem prep_done (g : Fin 8 → (Line 4096).Idx → BitVec 32) :
    prepInv b fx fy fz d L g k0_t2_loop.trips () = iprop(own d L wxM (wX b fx) ∗ own d L wyM (wY b fy) ∗ own d L wzM (wZ b fz)
      ∗ own d L i0M (iC b fx fy fz 0) ∗ own d L i1M (iC b fx fy fz 1) ∗ own d L i2M (iC b fx fy fz 2) ∗ own d L i3M (iC b fx fy fz 3)
      ∗ own d L i4M (iC b fx fy fz 4) ∗ own d L i5M (iC b fx fy fz 5) ∗ own d L i6M (iC b fx fy fz 6) ∗ own d L i7M (iC b fx fy fz 7)) := by
  rw [show k0_t2_loop.trips = 256 from rfl]; unfold prepInv; simp only [mix_last]

variable (wx wy wz : (Line 4096).Idx → F .f32) (p q : Fin 8 → (Line 4096).Idx → F .f32)

/-- The buffers before the second loop, -/
theorem sum_start (f g : (Line 4096).Idx → F .f32) :
    sumInv wx wy wz p q d L f g 0 () = iprop(own d L wxM wx ∗ own d L wyM wy ∗ own d L wzM wz
    ∗ own d L a0M (p 0) ∗ own d L a1M (p 1) ∗ own d L a2M (p 2) ∗ own d L a3M (p 3) ∗ own d L a4M (p 4) ∗ own d L a5M (p 5) ∗ own d L a6M (p 6) ∗ own d L a7M (p 7)
    ∗ own d L b0M (q 0) ∗ own d L b1M (q 1) ∗ own d L b2M (q 2) ∗ own d L b3M (q 3) ∗ own d L b4M (q 4) ∗ own d L b5M (q 5) ∗ own d L b6M (q 6) ∗ own d L b7M (q 7)
    ∗ own d L r0M f ∗ own d L r1M g) := by
  unfold sumInv; simp only [mix_zero]

/-- and after it. -/
theorem sum_done (f g : (Line 4096).Idx → F .f32) :
    sumInv wx wy wz p q d L f g k0_t3_loop.trips () = iprop(own d L wxM wx ∗ own d L wyM wy ∗ own d L wzM wz
    ∗ own d L a0M (p 0) ∗ own d L a1M (p 1) ∗ own d L a2M (p 2) ∗ own d L a3M (p 3) ∗ own d L a4M (p 4) ∗ own d L a5M (p 5) ∗ own d L a6M (p 6) ∗ own d L a7M (p 7)
    ∗ own d L b0M (q 0) ∗ own d L b1M (q 1) ∗ own d L b2M (q 2) ∗ own d L b3M (q 3) ∗ own d L b4M (q 4) ∗ own d L b5M (q 5) ∗ own d L b6M (q 6) ∗ own d L b7M (q 7)
    ∗ own d L r0M (summed wx wy wz p) ∗ own d L r1M (summed wx wy wz q)) := by
  rw [show k0_t3_loop.trips = 256 from rfl]; unfold sumInv; simp only [mix_last]

/-- The results of a chunk for one table. -/
def chunkOut (T : (Line 2197000).Idx → F .f32) : (Line 4096).Idx → F .f32 :=
  summed (wX b fx) (wY b fy) (wZ b fz) (looked (iC b fx fy fz) T)

theorem lists_lt (c : Fin 8) (x : (Line 4096).Idx) : (iC b fx fy fz c x).toNat < 2197000 := idx_lt _ _ _ c

set_option maxHeartbeats 16000000 in
set_option maxRecDepth 65536 in
/-- One chunk: the two results' blocks come to hold the chunk's sums, which `G0` and `G1` hold there. -/
theorem chunk (f0 G0 : Buf (Elt F) (o0M.view.loc (tile d L))) (f1 G1 : Buf (Elt F) (o1M.view.loc (tile d L)))
    (h0 : ∀ x, (chunkM L o0M t).view.read (Elt F) G0 x
      = chunkOut (chunkPos v2 t) (chunkX d L DX t) (chunkY d L DY t) (chunkZ d L DZ t) T0 x)
    (h1 : ∀ x, (chunkM L o1M t).view.read (Elt F) G1 x
      = chunkOut (chunkPos v2 t) (chunkX d L DX t) (chunkY d L DY t) (chunkZ d L DZ t) T1 x) :
    iprop(MayWaits (tile d L) (default : HIx 1) O ∗ chunkIn d L q0 q1 q2 q3 q4 T0 T1 DX DY DZ t
        ∗ ((chunkM L o0M t).view.loc (tile d L) ↦[(chunkM L o0M t).view.set]{fullShare} f0)
        ∗ ((chunkM L o1M t).view.loc (tile d L) ↦[(chunkM L o1M t).view.set]{fullShare} f1)
        ∗ scratch (F := F) d L ∗ sems (F := F) d L ∗ owes (tile d L) O W)
      ⊢ wp frame (wpE (defs₀ (F := F)) 𝒱₀ (tile d L) none) Set.univ (chunkProg (F := F) L v2 lanes t ())
          fun _ => iprop(chunkIn d L q0 q1 q2 q3 q4 T0 T1 DX DY DZ t
            ∗ ((chunkM L o0M t).view.loc (tile d L) ↦[(chunkM L o0M t).view.set]{fullShare} G0)
            ∗ ((chunkM L o1M t).view.loc (tile d L) ↦[(chunkM L o1M t).view.set]{fullShare} G1)
            ∗ scratch (F := F) d L ∗ sems (F := F) d L
            ∗ ∃ W', ⌜∀ p ∈ W', p ∈ W ∨ p.2 = none⌝ ∗ owes (tile d L) O W') := by
  unfold chunkProg k0_t1_body scratch sems chunkIn
  rw [k0_part6_eq_skeleton, k0_part7_eq_skeleton]
  unfold k0_part6_skel k0_part7_skel
  iintro ⟨#Hmw, ⟨HT0, HT1, HDX, HDY, HDZ⟩, HO0, HO1, ⟨⟨%wx, Hx⟩, ⟨%wy, Hy⟩, ⟨%wz, Hz⟩, ⟨%i0, I0⟩, ⟨%i1, I1⟩, ⟨%i2, I2⟩, ⟨%i3, I3⟩, ⟨%i4, I4⟩, ⟨%i5, I5⟩, ⟨%i6, I6⟩, ⟨%i7, I7⟩, ⟨%a0, A0⟩, ⟨%a1, A1⟩, ⟨%a2, A2⟩, ⟨%a3, A3⟩, ⟨%a4, A4⟩, ⟨%a5, A5⟩, ⟨%a6, A6⟩, ⟨%a7, A7⟩, ⟨%b0, B0⟩, ⟨%b1, B1⟩, ⟨%b2, B2⟩, ⟨%b3, B3⟩, ⟨%b4, B4⟩, ⟨%b5, B5⟩, ⟨%b6, B6⟩, ⟨%b7, B7⟩, ⟨%r0, R0⟩, ⟨%r1, R1⟩⟩, ⟨HG, S0, S1, S2, S3, S4⟩, HO⟩
  sl_exec (disch := exact View.amount_pos _ _ (show 0 < S4096.numel by decide))
  have efx : wxM.view.write (Elt F) wx (chunkX d L DX t) Finset.univ = chunkX d L DX t := write_own cc0_scratch0 _ _
  have efy : wyM.view.write (Elt F) wy (chunkY d L DY t) Finset.univ = chunkY d L DY t := write_own cc0_scratch1 _ _
  have efz : wzM.view.write (Elt F) wz (chunkZ d L DZ t) Finset.univ = chunkZ d L DZ t := write_own cc0_scratch2 _ _
  let ls : Fin 8 → (Line 4096).Idx → BitVec 32 := ![i0, i1, i2, i3, i4, i5, i6, i7]
  let fa : Fin 8 → (Line 4096).Idx → F .f32 := ![a0, a1, a2, a3, a4, a5, a6, a7]
  let fb : Fin 8 → (Line 4096).Idx → F .f32 := ![b0, b1, b2, b3, b4, b5, b6, b7]
  let g := iC (chunkPos v2 t) (chunkX d L DX t) (chunkY d L DY t) (chunkZ d L DZ t)
  let js := jobs d L q0 q1 T0 T1 g (lists_lt (chunkPos v2 t) (chunkX d L DX t) (chunkY d L DY t) (chunkZ d L DZ t)) fa fb
  rw [Prog.bind_assoc]
  sl_for (prepInv (chunkPos v2 t) (chunkX d L DX t) (chunkY d L DY t) (chunkZ d L DZ t) d L ls) $$ [Hx Hy Hz I0 I1 I2 I3 I4 I5 I6 I7]
  case region => intro k _; exact prep_trip (chunkPos v2 t) (chunkX d L DX t) (chunkY d L DY t) (chunkZ d L DZ t) d L v2 t ls k
  · iapply (Entails.of_eq (prep_start d L (chunkPos v2 t) (chunkX d L DX t) (chunkY d L DY t) (chunkZ d L DZ t) ls).symm)
    isplitl [Hx]; · iapply (Entails.of_eq (congrArg (own d L wxM) efx)); iexact Hx
    isplitl [Hy]; · iapply (Entails.of_eq (congrArg (own d L wyM) efy)); iexact Hy
    isplitl [Hz]; · iapply (Entails.of_eq (congrArg (own d L wzM) efz)); iexact Hz
    isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  iintro %_ HI
  ihave HI := (Entails.of_eq (prep_done d L (chunkPos v2 t) (chunkX d L DX t) (chunkY d L DY t) (chunkZ d L DZ t) ls)) $$ HI
  icases HI with ⟨Hx, Hy, Hz, I0, I1, I2, I3, I4, I5, I6, I7⟩
  imod (batch_alloc' (countersEmb : UEmb Counters 𝕄) (tile d L) (default : HIx 1) 32 (delivery js)) $$ HG with HB
  ihave HP := (gatherPre_input d L q0 q1 T0 T1 g (lists_lt _ _ _ _) fa fb) $$ [HT0 HT1 I0 I1 I2 I3 I4 I5 I6 I7 A0 A1 A2 A3 A4 A5 A6 A7 B0 B1 B2 B3 B4 B5 B6 B7]
  · unfold gatherPre
    isplitl [HT0]; · iexact HT0
    isplitl [HT1]; · iexact HT1
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  ihave HJ := (show iprop(bigSep (pending 0) (fun i => (js i).input) ∗ batch js 0 0) ⊢ issued d L js 0 from Entails.of_eq rfl) $$ [HP HB]
  · isplitl [HP]; · iexact HP
    iexact HB
  sl_exec
  iapply (gather_next d L js 0 (Nat.le_of_ble_eq_true rfl) _ rfl) $$ HJ
  iintro HJ
  sl_exec
  iapply (gather_next d L js 1 (Nat.le_of_ble_eq_true rfl) _ rfl) $$ HJ
  iintro HJ
  sl_exec
  iapply (gather_next d L js 2 (Nat.le_of_ble_eq_true rfl) _ rfl) $$ HJ
  iintro HJ
  sl_exec
  iapply (gather_next d L js 3 (Nat.le_of_ble_eq_true rfl) _ rfl) $$ HJ
  iintro HJ
  sl_exec
  iapply (gather_next d L js 4 (Nat.le_of_ble_eq_true rfl) _ rfl) $$ HJ
  iintro HJ
  sl_exec
  iapply (gather_next d L js 5 (Nat.le_of_ble_eq_true rfl) _ rfl) $$ HJ
  iintro HJ
  sl_exec
  iapply (gather_next d L js 6 (Nat.le_of_ble_eq_true rfl) _ rfl) $$ HJ
  iintro HJ
  sl_exec
  iapply (gather_next d L js 7 (Nat.le_of_ble_eq_true rfl) _ rfl) $$ HJ
  iintro HJ
  sl_exec
  iapply (gather_next d L js 8 (Nat.le_of_ble_eq_true rfl) _ rfl) $$ HJ
  iintro HJ
  sl_exec
  iapply (gather_next d L js 9 (Nat.le_of_ble_eq_true rfl) _ rfl) $$ HJ
  iintro HJ
  sl_exec
  iapply (gather_next d L js 10 (Nat.le_of_ble_eq_true rfl) _ rfl) $$ HJ
  iintro HJ
  sl_exec
  iapply (gather_next d L js 11 (Nat.le_of_ble_eq_true rfl) _ rfl) $$ HJ
  iintro HJ
  sl_exec
  iapply (gather_next d L js 12 (Nat.le_of_ble_eq_true rfl) _ rfl) $$ HJ
  iintro HJ
  sl_exec
  iapply (gather_next d L js 13 (Nat.le_of_ble_eq_true rfl) _ rfl) $$ HJ
  iintro HJ
  sl_exec
  iapply (gather_next d L js 14 (Nat.le_of_ble_eq_true rfl) _ rfl) $$ HJ
  iintro HJ
  sl_exec
  iapply (gather_next d L js 15 (Nat.le_of_ble_eq_true rfl) _ rfl) $$ HJ
  iintro HJ
  icases (show issued d L js 16 ⊢ iprop(bigSep (pending 16) (fun i => (js i).input) ∗ batch js 16 0) from Entails.of_eq rfl) $$ HJ with ⟨-, HB⟩
  ihave HA := (show iprop(batch js 16 0 ∗ ∃ W', ⌜∀ p ∈ W', p ∈ W ∨ p.2 = none⌝ ∗ owes (tile d L) O W') ⊢ awaited d L js O W 0 from Entails.of_eq rfl) $$ [HB HO]
  · isplitl [HB]; · iexact HB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  sl_exec
  iapply (wait_next d L js 0 (by decide) _ _ rfl) $$ [HA]
  · isplitl [HA]; · iexact HA
    iexact Hmw
  iintro HA
  sl_exec
  iapply (wait_next d L js 1 (by decide) _ _ rfl) $$ [HA]
  · isplitl [HA]; · iexact HA
    iexact Hmw
  iintro HA
  sl_exec
  iapply (wait_next d L js 2 (by decide) _ _ rfl) $$ [HA]
  · isplitl [HA]; · iexact HA
    iexact Hmw
  iintro HA
  sl_exec
  iapply (wait_next d L js 3 (by decide) _ _ rfl) $$ [HA]
  · isplitl [HA]; · iexact HA
    iexact Hmw
  iintro HA
  sl_exec
  iapply (wait_next d L js 4 (by decide) _ _ rfl) $$ [HA]
  · isplitl [HA]; · iexact HA
    iexact Hmw
  iintro HA
  sl_exec
  iapply (wait_next d L js 5 (by decide) _ _ rfl) $$ [HA]
  · isplitl [HA]; · iexact HA
    iexact Hmw
  iintro HA
  sl_exec
  iapply (wait_next d L js 6 (by decide) _ _ rfl) $$ [HA]
  · isplitl [HA]; · iexact HA
    iexact Hmw
  iintro HA
  sl_exec
  iapply (wait_next d L js 7 (by decide) _ _ rfl) $$ [HA]
  · isplitl [HA]; · iexact HA
    iexact Hmw
  iintro HA
  sl_exec
  iapply (wait_next d L js 8 (by decide) _ _ rfl) $$ [HA]
  · isplitl [HA]; · iexact HA
    iexact Hmw
  iintro HA
  sl_exec
  iapply (wait_next d L js 9 (by decide) _ _ rfl) $$ [HA]
  · isplitl [HA]; · iexact HA
    iexact Hmw
  iintro HA
  sl_exec
  iapply (wait_next d L js 10 (by decide) _ _ rfl) $$ [HA]
  · isplitl [HA]; · iexact HA
    iexact Hmw
  iintro HA
  sl_exec
  iapply (wait_next d L js 11 (by decide) _ _ rfl) $$ [HA]
  · isplitl [HA]; · iexact HA
    iexact Hmw
  iintro HA
  sl_exec
  iapply (wait_next d L js 12 (by decide) _ _ rfl) $$ [HA]
  · isplitl [HA]; · iexact HA
    iexact Hmw
  iintro HA
  sl_exec
  iapply (wait_next d L js 13 (by decide) _ _ rfl) $$ [HA]
  · isplitl [HA]; · iexact HA
    iexact Hmw
  iintro HA
  sl_exec
  iapply (wait_next d L js 14 (by decide) _ _ rfl) $$ [HA]
  · isplitl [HA]; · iexact HA
    iexact Hmw
  iintro HA
  sl_exec
  iapply (wait_next d L js 15 (by decide) _ _ rfl) $$ [HA]
  · isplitl [HA]; · iexact HA
    iexact Hmw
  iintro HA
  sl_exec
  icases (show awaited d L js O W 16 ⊢ iprop(Batch (countersEmb : UEmb Counters 𝕄) (tile d L) (.dma cc0_scratch29.sem) (default : HIx 1) 32 (delivery js) 65536 (32 * 65536)
      ∗ ∃ W', ⌜∀ p ∈ W', p ∈ W ∨ p.2 = none⌝ ∗ owes (tile d L) O W') from Entails.of_eq rfl) $$ HA with ⟨HB, %W1, %hW1, HO⟩
  imod (batch_collect' (countersEmb : UEmb Counters 𝕄) (tile d L) (by decide : 0 < 32)) $$ HB with ⟨HD, HG⟩
  ihave HD := ((deliveries js).trans (output_gatherPost d L q0 q1 T0 T1 g (lists_lt (chunkPos v2 t) (chunkX d L DX t) (chunkY d L DY t) (chunkZ d L DZ t)) fa fb)) $$ HD
  unfold gatherPre
  icases HD with ⟨HT0, HT1, I0, I1, I2, I3, I4, I5, I6, I7, A0, A1, A2, A3, A4, A5, A6, A7, B0, B1, B2, B3, B4, B5, B6, B7⟩
  sl_for (sumInv (wX (chunkPos v2 t) (chunkX d L DX t)) (wY (chunkPos v2 t) (chunkY d L DY t)) (wZ (chunkPos v2 t) (chunkZ d L DZ t)) (looked g T0) (looked g T1) d L r0 r1) $$ [Hx Hy Hz A0 A1 A2 A3 A4 A5 A6 A7 B0 B1 B2 B3 B4 B5 B6 B7 R0 R1]
  case region => intro k _; exact sum_trip (wX (chunkPos v2 t) (chunkX d L DX t)) (wY (chunkPos v2 t) (chunkY d L DY t)) (wZ (chunkPos v2 t) (chunkZ d L DZ t)) (looked g T0) (looked g T1) d L r0 r1 k
  · iapply (Entails.of_eq (sum_start d L (wX (chunkPos v2 t) (chunkX d L DX t)) (wY (chunkPos v2 t) (chunkY d L DY t)) (wZ (chunkPos v2 t) (chunkZ d L DZ t)) (looked g T0) (looked g T1) r0 r1).symm)
    isplitl [Hx]; · iexact Hx
    isplitl [Hy]; · iexact Hy
    isplitl [Hz]; · iexact Hz
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [R0]; · iexact R0
    iexact R1
  iintro %_ HI
  ihave HI := (Entails.of_eq (sum_done d L (wX (chunkPos v2 t) (chunkX d L DX t)) (wY (chunkPos v2 t) (chunkY d L DY t)) (wZ (chunkPos v2 t) (chunkZ d L DZ t)) (looked g T0) (looked g T1) r0 r1)) $$ HI
  icases HI with ⟨Hx, Hy, Hz, A0, A1, A2, A3, A4, A5, A6, A7, B0, B1, B2, B3, B4, B5, B6, B7, R0, R1⟩
  sl_exec (disch := exact View.amount_pos _ _ (show 0 < S4096.numel by decide))
  sl_step
  isplitl [HT0 HT1 HDX HDY HDZ]
  · isplitl [HT0]; · iexact HT0
    isplitl [HT1]; · iexact HT1
    isplitl [HDX]; · iexact HDX
    isplitl [HDY]; · iexact HDY
    iexact HDZ
  isplitl [HO0]
  · iapply (Entails.of_eq (pointsTo_congr (landed_out (chunkM L o0M t).view f0 G0 _ h0))); iexact HO0
  isplitl [HO1]
  · iapply (Entails.of_eq (pointsTo_congr (landed_out (chunkM L o1M t).view f1 G1 _ h1))); iexact HO1
  isplitl [Hx Hy Hz I0 I1 I2 I3 I4 I5 I6 I7 A0 A1 A2 A3 A4 A5 A6 A7 B0 B1 B2 B3 B4 B5 B6 B7 R0 R1]
  · isplitl [Hx]; · iapply (some_intro d L wxM _); iexact Hx
    isplitl [Hy]; · iapply (some_intro d L wyM _); iexact Hy
    isplitl [Hz]; · iapply (some_intro d L wzM _); iexact Hz
    isplitl [I0]; · iapply (some_intro d L i0M _); iexact I0
    isplitl [I1]; · iapply (some_intro d L i1M _); iexact I1
    isplitl [I2]; · iapply (some_intro d L i2M _); iexact I2
    isplitl [I3]; · iapply (some_intro d L i3M _); iexact I3
    isplitl [I4]; · iapply (some_intro d L i4M _); iexact I4
    isplitl [I5]; · iapply (some_intro d L i5M _); iexact I5
    isplitl [I6]; · iapply (some_intro d L i6M _); iexact I6
    isplitl [I7]; · iapply (some_intro d L i7M _); iexact I7
    isplitl [A0]; · iapply (some_intro d L a0M _); iexact A0
    isplitl [A1]; · iapply (some_intro d L a1M _); iexact A1
    isplitl [A2]; · iapply (some_intro d L a2M _); iexact A2
    isplitl [A3]; · iapply (some_intro d L a3M _); iexact A3
    isplitl [A4]; · iapply (some_intro d L a4M _); iexact A4
    isplitl [A5]; · iapply (some_intro d L a5M _); iexact A5
    isplitl [A6]; · iapply (some_intro d L a6M _); iexact A6
    isplitl [A7]; · iapply (some_intro d L a7M _); iexact A7
    isplitl [B0]; · iapply (some_intro d L b0M _); iexact B0
    isplitl [B1]; · iapply (some_intro d L b1M _); iexact B1
    isplitl [B2]; · iapply (some_intro d L b2M _); iexact B2
    isplitl [B3]; · iapply (some_intro d L b3M _); iexact B3
    isplitl [B4]; · iapply (some_intro d L b4M _); iexact B4
    isplitl [B5]; · iapply (some_intro d L b5M _); iexact B5
    isplitl [B6]; · iapply (some_intro d L b6M _); iexact B6
    isplitl [B7]; · iapply (some_intro d L b7M _); iexact B7
    isplitl [R0]; · iapply (some_intro d L r0M _); iexact R0
    iapply (some_intro d L r1M _); iexact R1
  isplitl [HG S0 S1 S2 S3 S4]
  · isplitl [HG]; · iexact HG
    isplitl [S0]; · iexact S0
    isplitl [S1]; · iexact S1
    isplitl [S2]; · iexact S2
    isplitl [S3]; · iexact S3
    iexact S4
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW1 p hp

end Cert.Proof.WarpKernelIdeal

end
-- ==== Proof.TileKernelIdeal.lean ====
/-
  A tile's work: its sixteen chunks, one after another.
-/
module

public import proofs.«01_k».proof.Proof.ChunkKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Transfers
open Cert.Proof.Spec Cert.Proof.Lanes Cert.Proof.GatherBatch Cert.Proof.Tables

variable {F : FTy → Type} [FloatOps F]

local notation "𝕄" => MT nD τ sig (HIx 1) (Elt F) ℕ UU ℕ

/-! ## What a chunk's sums are -/

/-- The warped volume of a table: every voxel's weighted sum, at the displacements `X`, `Y`, `Z`. -/
def volume (T : (Line 2197000).Idx → F .f32) (X Y Z : (Line 2097152).Idx → F .f32) : (Line 2097152).Idx → F .f32 :=
  fun n => voxel (tab T) (X n) (Y n) (Z n) (BitVec.ofNat 32 (n 0).val)

/-- An element of a chunk's sums is the voxel at its position. -/
theorem chunkOut_apply (b : BitVec 32) (fx fy fz : (Line 4096).Idx → F .f32) (T : (Line 2197000).Idx → F .f32) (x : (Line 4096).Idx)
    (n : BitVec 32) (h : posn b x = n) : chunkOut b fx fy fz T x = voxel (tab T) (fx x) (fy x) (fz x) n := by
  subst h; rfl

variable (d : Dev nD) (L : grid0.Coords)

/-- A tile's number times its share of the voxels, as the program computes it. -/
abbrev tilePos : BitVec 32 :=
  Scalar.muli (Scalar.addi (Scalar.muli (BitVec.ofNat 32 (L 1).val) 2#32) (BitVec.ofNat 32 (L 0).val)) 65536#32

/-- Element `x` of chunk `t` of a tile is the voxel the chunk's block has there. -/
theorem posn_chunk (t : Fin k0_t1_loop.trips) (x : (Line 4096).Idx) :
    posn (chunkPos (tilePos L) t) x = BitVec.ofNat 32 (131072 * (L 1).val + 65536 * (L 0).val + 4096 * t.val + (x 0).val) := by
  unfold posn chunkPos tilePos
  simp only [Scalar.addi, Scalar.muli, IntOp.addi, IntOp.muli, Scf.iv]
  apply BitVec.eq_of_toNat_eq
  simp only [BitVec.toNat_add, BitVec.toNat_mul, BitVec.toNat_ofNat]
  omega

theorem emb_chunk (t : Fin k0_t1_loop.trips) (x : (Line 4096).Idx) :
    ((Rect.unit (s := S2097152) (k0_off1 L t) S4096.size (k0_off1_inb L t)).emb x 0).val
      = 131072 * (L 1).val + 65536 * (L 0).val + 4096 * t.val + (x 0).val := by
  rw [Rect.emb_apply]
  show k0_off1 L t 0 + 1 * (x 0).val = _
  rw [k0_off1_eq]
  show 131072 * (L 1).val + 65536 * (L 0).val + 4096 * t.val + 1 * (x 0).val = _
  omega

variable (X Y Z : (Line 2097152).Idx → F .f32) (T : (Line 2197000).Idx → F .f32)

omit [FloatOps F] in
/-- A chunk of an array over all voxels has the array's values in the chunk's block. -/
theorem read_chunk (m : Memref sig .scVector .hbm S2097152 .f32) (f : Buf (Elt F) (m.view.loc (tile d L))) (t : Fin k0_t1_loop.trips)
    (x : (Line 4096).Idx) : (chunkM L m t).view.read (Elt F) f x
      = m.view.read (Elt F) f ((Rect.unit (s := S2097152) (k0_off1 L t) S4096.size (k0_off1_inb L t)).emb x) := rfl

/-- A chunk's sums are what the warped volume has in its block. -/
theorem volume_chunk (t : Fin k0_t1_loop.trips) (x : (Line 4096).Idx) :
    volume T X Y Z ((Rect.unit (s := S2097152) (k0_off1 L t) S4096.size (k0_off1_inb L t)).emb x)
      = chunkOut (chunkPos (tilePos L) t) (chunkX d L X t) (chunkY d L Y t) (chunkZ d L Z t) T x := by
  rw [chunkOut_apply (n := BitVec.ofNat 32 ((Rect.unit (s := S2097152) (k0_off1 L t) S4096.size (k0_off1_inb L t)).emb x 0).val)
    (h := by rw [posn_chunk, emb_chunk])]
  have hx : chunkX d L X t x = X ((Rect.unit (s := S2097152) (k0_off1 L t) S4096.size (k0_off1_inb L t)).emb x) := read_chunk d L gxM X t x
  have hy : chunkY d L Y t x = Y ((Rect.unit (s := S2097152) (k0_off1 L t) S4096.size (k0_off1_inb L t)).emb x) := read_chunk d L gyM Y t x
  have hz : chunkZ d L Z t x = Z ((Rect.unit (s := S2097152) (k0_off1 L t) S4096.size (k0_off1_inb L t)).emb x) := read_chunk d L gzM Z t x
  rw [hx, hy, hz]
  unfold volume
  with_reducible rfl

/-! ## The loop over the chunks -/

/-- The blocks of a result that a tile writes: `G` in the first `k` of them, `f` in the others. -/
def blocks (m : Memref sig .scVector .hbm S2097152 .f32) (f G : Buf (Elt F) (m.view.loc (tile d L))) (k : ℕ) : sProp 𝕄 :=
  bigSep Finset.univ fun t : Fin k0_t1_loop.trips =>
    (chunkM L m t).view.loc (tile d L) ↦[(chunkM L m t).view.set]{fullShare} (if t.val < k then G else f)

omit [FloatOps F] in
/-- Block `k` taken out, before it is written, -/
theorem blocks_take (m : Memref sig .scVector .hbm S2097152 .f32) (f G : Buf (Elt F) (m.view.loc (tile d L))) (k : Fin k0_t1_loop.trips) :
    blocks d L m f G k.val = iprop(((chunkM L m k).view.loc (tile d L) ↦[(chunkM L m k).view.set]{fullShare} f)
      ∗ bigSep (Finset.univ.erase k) fun t : Fin k0_t1_loop.trips =>
          (chunkM L m t).view.loc (tile d L) ↦[(chunkM L m t).view.set]{fullShare} (if t.val < k.val + 1 then G else f)) := by
  unfold blocks
  rw [SparseCore.bigSep_erase' (Finset.mem_univ k), if_neg (Nat.lt_irrefl _)]
  refine congrArg (fun R : sProp 𝕄 => iprop(((chunkM L m k).view.loc (tile d L) ↦[(chunkM L m k).view.set]{fullShare} f) ∗ R))
    (bigSep_congr fun t ht => ?_)
  have hne : t.val ≠ k.val := fun e => (Finset.mem_erase.mp ht).1 (Fin.ext e)
  by_cases h : t.val < k.val
  · rw [if_pos h, if_pos (by omega)]
  · rw [if_neg h, if_neg (by omega)]

omit [FloatOps F] in
/-- and put back, written. -/
theorem blocks_put (m : Memref sig .scVector .hbm S2097152 .f32) (f G : Buf (Elt F) (m.view.loc (tile d L))) (k : Fin k0_t1_loop.trips) :
    blocks d L m f G (k.val + 1) = iprop(((chunkM L m k).view.loc (tile d L) ↦[(chunkM L m k).view.set]{fullShare} G)
      ∗ bigSep (Finset.univ.erase k) fun t : Fin k0_t1_loop.trips =>
          (chunkM L m t).view.loc (tile d L) ↦[(chunkM L m t).view.set]{fullShare} (if t.val < k.val + 1 then G else f)) := by
  unfold blocks
  rw [SparseCore.bigSep_erase' (Finset.mem_univ k), if_pos (Nat.lt_succ_self _)]

variable (q0 q1 q2 q3 q4 : PosShare TreeShare) (T0 T1 : (Line 2197000).Idx → F .f32)
  (O : CellTallies nD τ sig (HIx 1)) (W : Waits sig (HIx 1)) (f0 f1 : (Line 2097152).Idx → F .f32)

/-- What a tile reads. -/
def tileIn : sProp 𝕄 :=
  iprop((t0M.view.loc (tile d L) ↦{q0} T0) ∗ (t1M.view.loc (tile d L) ↦{q1} T1)
    ∗ (gxM.view.loc (tile d L) ↦{q2} X) ∗ (gyM.view.loc (tile d L) ↦{q3} Y) ∗ (gzM.view.loc (tile d L) ↦{q4} Z))

/-- The tile after `k` chunks. -/
def tileInv (k : ℕ) (_ : Unit) : sProp 𝕄 :=
  iprop(MayWaits (tile d L) (default : HIx 1) O ∗ tileIn d L X Y Z q0 q1 q2 q3 q4 T0 T1
    ∗ blocks d L o0M f0 (volume T0 X Y Z) k ∗ blocks d L o1M f1 (volume T1 X Y Z) k
    ∗ scratch (F := F) d L ∗ sems (F := F) d L ∗ ∃ W', ⌜∀ p ∈ W', p ∈ W ∨ p.2 = none⌝ ∗ owes (tile d L) O W')

omit [FloatOps F] in
/-- A share of an array over all voxels is a share of a chunk of it and of the rest. -/
theorem chunk_of (m : Memref sig .scVector .hbm S2097152 .f32) (q : PosShare TreeShare) (f : Buf (Elt F) (m.view.loc (tile d L))) (t : Fin k0_t1_loop.trips) :
    (m.view.loc (tile d L) ↦{q} f : sProp 𝕄) = iprop(((chunkM L m t).view.loc (tile d L) ↦[(chunkM L m t).view.set]{q} f)
      ∗ (m.view.loc (tile d L) ↦[Finset.univ \ (chunkM L m t).view.set]{q} f)) :=
  BI.Entails.antisymm (pointsTo_split_subset (Finset.subset_univ (chunkM L m t).view.set)).1
    (pointsTo_split_subset (Finset.subset_univ (chunkM L m t).view.set)).2

set_option maxHeartbeats 2000000 in
/-- One chunk of the loop. -/
theorem tile_trip (k : Fin k0_t1_loop.trips) :
    tileInv d L X Y Z q0 q1 q2 q3 q4 T0 T1 O W f0 f1 k.val ()
      ⊢ wp frame (wpE (defs₀ (F := F)) 𝒱₀ (tile d L) none) Set.univ (chunkProg (F := F) L (tilePos L) lanes k ())
          fun _ => tileInv d L X Y Z q0 q1 q2 q3 q4 T0 T1 O W f0 f1 (k.val + 1) () := by
  unfold tileInv tileIn
  rw [blocks_take, blocks_take, blocks_put, blocks_put, chunk_of d L gxM q2 X k, chunk_of d L gyM q3 Y k, chunk_of d L gzM q4 Z k]
  iintro ⟨#Hmw, ⟨H0, H1, ⟨Hx, Hx'⟩, ⟨Hy, Hy'⟩, ⟨Hz, Hz'⟩⟩, ⟨B0, B0'⟩, ⟨B1, B1'⟩, Hs, Hm, %W1, %hW1, HO⟩
  ihave Hwp := (chunk d L q0 q1 q2 q3 q4 T0 T1 X Y Z O W1 (tilePos L) k f0 (volume T0 X Y Z) f1 (volume T1 X Y Z)
    (fun x => volume_chunk d L X Y Z T0 k x) (fun x => volume_chunk d L X Y Z T1 k x)) $$ [Hmw H0 H1 Hx Hy Hz B0 B1 Hs Hm HO]
  · unfold chunkIn
    isplitl []; · iexact Hmw
    isplitl [H0 H1 Hx Hy Hz]
    · isplitl [H0]; · iexact H0
      isplitl [H1]; · iexact H1
      isplitl [Hx]; · iexact Hx
      isplitl [Hy]; · iexact Hy
      iexact Hz
    isplitl [B0]; · iexact B0
    isplitl [B1]; · iexact B1
    isplitl [Hs]; · iexact Hs
    isplitl [Hm]; · iexact Hm
    iexact HO
  iapply (wp_wand frame _) $$ Hwp
  iintro %_ HI
  unfold chunkIn
  icases HI with ⟨⟨H0, H1, Hx, Hy, Hz⟩, B0, B1, Hs, Hm, %W2, %hW2, HO⟩
  isplitl []; · iexact Hmw
  isplitl [H0 H1 Hx Hy Hz Hx' Hy' Hz']
  · isplitl [H0]; · iexact H0
    isplitl [H1]; · iexact H1
    isplitl [Hx Hx']
    · isplitl [Hx]; · iexact Hx
      iexact Hx'
    isplitl [Hy Hy']
    · isplitl [Hy]; · iexact Hy
      iexact Hy'
    isplitl [Hz]; · iexact Hz
    iexact Hz'
  isplitl [B0 B0']
  · isplitl [B0]; · iexact B0
    iexact B0'
  isplitl [B1 B1']
  · isplitl [B1]; · iexact B1
    iexact B1'
  isplitl [Hs]; · iexact Hs
  isplitl [Hm]; · iexact Hm
  iexists W2
  isplitr
  · ipureintro
    intro p hp
    rcases hW2 p hp with h | h
    · exact hW1 p h
    · exact .inr h
  iexact HO

/-- The whole of a tile's program: the sums of its sixteen blocks. -/
theorem tile_loop :
    iprop(MayWaits (tile d L) (default : HIx 1) O ∗ tileIn d L X Y Z q0 q1 q2 q3 q4 T0 T1
        ∗ blocks d L o0M f0 (volume T0 X Y Z) 0 ∗ blocks d L o1M f1 (volume T1 X Y Z) 0
        ∗ scratch (F := F) d L ∗ sems (F := F) d L ∗ owes (tile d L) O W)
      ⊢ wp frame (wpE (defs₀ (F := F)) 𝒱₀ (tile d L) none) Set.univ (tileProg (F := F) L)
          fun _ => iprop(tileIn d L X Y Z q0 q1 q2 q3 q4 T0 T1
            ∗ blocks d L o0M f0 (volume T0 X Y Z) 16 ∗ blocks d L o1M f1 (volume T1 X Y Z) 16
            ∗ scratch (F := F) d L ∗ sems (F := F) d L ∗ ∃ W', ⌜∀ p ∈ W', p ∈ W ∨ p.2 = none⌝ ∗ owes (tile d L) O W') := by
  unfold tileProg
  rw [cc0__warp_body_eq_skeleton]
  unfold cc0__warp_body_skel
  dsimp only
  iintro ⟨#Hmw, Hin, B0, B1, Hs, Hm, HO⟩
  sl_for (tileInv d L X Y Z q0 q1 q2 q3 q4 T0 T1 O W f0 f1) $$ [Hmw Hin B0 B1 Hs Hm HO]
  case region => intro k _; exact tile_trip d L X Y Z q0 q1 q2 q3 q4 T0 T1 O W f0 f1 k
  · unfold tileInv
    isplitl []; · iexact Hmw
    isplitl [Hin]; · iexact Hin
    isplitl [B0]; · iexact B0
    isplitl [B1]; · iexact B1
    isplitl [Hs]; · iexact Hs
    isplitl [Hm]; · iexact Hm
    iexists W
    isplitr
    · ipureintro; exact fun p hp => .inl hp
    iexact HO
  iintro %_ HI
  unfold tileInv
  rw [show Scf.trips k0_t1_loop.lb k0_t1_loop.ub k0_t1_loop.st = 16 from rfl]
  icases HI with ⟨-, HI⟩
  sl_exec
  sl_step
  iexact HI

end Cert.Proof.WarpKernelIdeal

end
-- ==== Proof.DealKernelIdeal.lean ====
/-
  What the call hands each tile and gets back, and that the tiles' parts are the arrays whole.
-/
module

public import proofs.«01_k».proof.Proof.TileKernelIdeal

@[expose] public section

noncomputable section

namespace Cert.Proof.WarpKernelIdeal

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)
open Idealize.ShloMosaic.Tactic
open Cert.Proof.Spec Cert.Proof.Lanes

variable {F : FTy → Type} [FloatOps F]

local notation "𝕄" => MT nD τ sig (HIx 1) (Elt F) ℕ UU ℕ

/-! ## A tile's part -/

/-- The tile on SparseCore `c`, subcore `s`. -/
def at_ (c : Fin 2) (s : Fin 16) : grid0.Coords :=
  fun | 0 => c | 1 => s | ⟨_ + 2, h⟩ => absurd h (Nat.not_lt.2 (Nat.le_add_left _ _))

/-- A tile's number. -/
def num (L : grid0.Coords) : Fin (2 ^ 5) :=
  ⟨(L 0).val + 2 * (L 1).val, by
    have h0 : (L 0).val < 2 := (L 0).isLt
    have h1 : (L 1).val < 16 := (L 1).isLt
    show _ < 32
    omega⟩

/-- A tile's share of an array that all of them read: one of thirty-two. -/
abbrev shareOf (L : grid0.Coords) : PosShare TreeShare := ShareLeaves.leaf 5 fullShare (num L)

/-- The arrays of the call: the tables, the displacements along the three axes, what the results hold before. -/
structure Arrays (F : FTy → Type) where
  t0 : (Line 2197000).Idx → F .f32
  t1 : (Line 2197000).Idx → F .f32
  x : (Line 2097152).Idx → F .f32
  y : (Line 2097152).Idx → F .f32
  z : (Line 2097152).Idx → F .f32
  o0 : (Line 2097152).Idx → F .f32
  o1 : (Line 2097152).Idx → F .f32

variable (d : Dev nD) (A : Arrays F)

/-- A tile's part with its blocks of the results written up to chunk `k`. -/
def part (L : grid0.Coords) (k : ℕ) : sProp 𝕄 :=
  iprop(tileIn d L A.x A.y A.z (shareOf L) (shareOf L) (shareOf L) (shareOf L) (shareOf L) A.t0 A.t1
    ∗ blocks d L o0M A.o0 (volume A.t0 A.x A.y A.z) k ∗ blocks d L o1M A.o1 (volume A.t1 A.x A.y A.z) k)

instance part_storable (L : grid0.Coords) (k : ℕ) : BI.Storable (upEmb : UEmb _ 𝕄) (part d A L k) := by
  unfold part tileIn blocks
  infer_instance

/-- The parts of a SparseCore's tiles. -/
def parts (c : Fin 2) (k : ℕ) : sProp 𝕄 := bigSep Finset.univ fun s : Fin 16 => part d A (at_ c s) k

instance parts_storable (c : Fin 2) (k : ℕ) : BI.Storable (upEmb : UEmb _ 𝕄) (parts d A c k) := by
  unfold parts
  infer_instance

attribute [local irreducible] part

/-- What the call hands out and gets back: to a SparseCore its tiles' parts, to a tile its own. -/
def P (A : Dev nD → Arrays F) : (K (F := F)).Pay (nD := nD) (Val := Elt F) (Name := ℕ) (U := UU) where
  st := fun q d c => match q with | 0 => parts d (A d) (Fin.cast nCore_zero c) 0
  dn := fun q d c => match q with | 0 => parts d (A d) (Fin.cast nCore_zero c) 16
  go := fun q d c i => match q with | 0 => part d (A d) (at_ (Fin.cast nCore_zero c) (Fin.cast nSub_zero i)) 0
  td := fun q d c i => match q with | 0 => part d (A d) (at_ (Fin.cast nCore_zero c) (Fin.cast nSub_zero i)) 16
  x := fun _ _ => iprop(emp)

instance P_storable (A : Dev nD → Arrays F) : (P A).IsStorable where
  st q d c := match q with | 0 => parts_storable d (A d) (Fin.cast nCore_zero c) 0
  dn q d c := match q with | 0 => parts_storable d (A d) (Fin.cast nCore_zero c) 16
  go q d c i := match q with | 0 => part_storable d (A d) (at_ (Fin.cast nCore_zero c) (Fin.cast nSub_zero i)) 0
  td q d c i := match q with | 0 => part_storable d (A d) (at_ (Fin.cast nCore_zero c) (Fin.cast nSub_zero i)) 16

theorem vecSplit (A : Dev nD → Arrays F) : (K (F := F)).VecSplit' (P A) 0 := by
  intro d c
  show parts d (A d) (Fin.cast nCore_zero c) 0 ⊢ |={Set.univ}=> iprop(parts d (A d) (Fin.cast nCore_zero c) 0
    ∗ (parts d (A d) (Fin.cast nCore_zero c) 16 -∗ parts d (A d) (Fin.cast nCore_zero c) 16))
  iintro H; imodintro
  isplitl [H]; · iexact H
  iintro H; iexact H

/-! ## The tile's own buffers and semaphores -/

section Own

variable (L : grid0.Coords)

/-- The tile's scratch buffers. -/
abbrev scratchRefs : List (Ref sig .scVector) :=
  [cc0_scratch0, cc0_scratch1, cc0_scratch2, cc0_scratch3, cc0_scratch4, cc0_scratch5, cc0_scratch6, cc0_scratch7, cc0_scratch8, cc0_scratch9,
    cc0_scratch10, cc0_scratch11, cc0_scratch12, cc0_scratch13, cc0_scratch14, cc0_scratch15, cc0_scratch16, cc0_scratch17, cc0_scratch18,
    cc0_scratch19, cc0_scratch20, cc0_scratch21, cc0_scratch22, cc0_scratch23, cc0_scratch24, cc0_scratch25, cc0_scratch26, cc0_scratch27,
    cc0_scratch28]

theorem scratchRefs_nodup : scratchRefs.Nodup := by decide

omit [FloatOps F] in
/-- The tile owns each of its scratch buffers. -/
theorem scratchRefs_own : ∀ r ∈ scratchRefs, (Proc.scVector (cV L) (jV L)).devRef r ∈ ownRefs (τ := τ) (Proc.scVector (cV L) (jV L)) := by
  intro r hr
  have h : ∀ r ∈ scratchRefs, r.space = .vmem := by decide
  refine SparseCore.Cfg.mem_ownRefs_of_owner ?_
  have := h r hr
  obtain ⟨sp, ix, ok⟩ := r
  subst this
  rfl

/-- The tile's semaphores. -/
abbrev semRefs : List (SemLoc sig) :=
  [.dma cc0_scratch29.sem, .dma cc0_scoped0.sem, .dma cc0_scoped1.sem, .dma cc0_scoped2.sem, .dma cc0_scoped3.sem, .dma cc0_scoped4.sem]

theorem semRefs_nodup : semRefs.Nodup := by decide

omit [FloatOps F] in
/-- Part of a separating conjunction, listed, and the rest. -/
theorem bigSep_listed {I : Type} [DecidableEq I] (s : Finset I) (l : List I) (hl : l.Nodup) (hs : ∀ i ∈ l, i ∈ s) (Φ : I → sProp 𝕄) :
    bigSep s Φ = iprop(bigSepL l Φ ∗ bigSep (s \ l.toFinset) Φ) := by
  rw [SparseCore.bigSep_sdiff_split' (s := s) (t := l.toFinset) fun i hi => hs i (List.mem_toFinset.mp hi),
    bigSep_eq_bigSepL_of_eq l rfl hl]

omit [FloatOps F] in
/-- The tile's own semaphores are the six it uses and others. -/
theorem ownSems0_tile : (ownSems0 (tile d L) : sProp 𝕄) = iprop(sems (F := F) d L
    ∗ bigSep (ownCells (tile d L) \ (semRefs.map fun s => ((tile d L, s) : GSem nD τ sig)).toFinset) fun g => semVal g 0) := by
  unfold SparseCore.Cfg.ownSems0
  rw [bigSep_listed (ownCells (tile d L)) (semRefs.map fun s => ((tile d L, s) : GSem nD τ sig))
    (semRefs_nodup.map fun a b h => (Prod.ext_iff.mp h).2) (fun g hg => by
      obtain ⟨s, hs, rfl⟩ := List.mem_map.mp hg
      refine mem_ownCells.mpr ⟨rfl, ?_⟩
      have h : ∀ s ∈ semRefs, s.isScoped .scVector = true := by decide
      exact h s hs)]
  rfl

omit [FloatOps F] in
/-- The tile's own buffers are its scratch and others. -/
theorem ownBufs_tile : (ownBufs (tile d L) : sProp 𝕄) = iprop(scratch (F := F) d L
    ∗ bigSep (ownRefs (τ := τ) (Proc.scVector (cV L) (jV L)) \ (scratchRefs.map (Proc.scVector (cV L) (jV L)).devRef).toFinset)
        fun b => iprop(∃ f, ((d, b) : Loc nD τ sig) ↦{fullShare} f)) := by
  unfold SparseCore.Cfg.ownBufs
  rw [bigSep_listed (ownRefs (τ := τ) (tile d L).2) (scratchRefs.map (Proc.scVector (cV L) (jV L)).devRef)
    (scratchRefs_nodup.map (Proc.devRef_injective _)) (fun b hb => by
      obtain ⟨r, hr, rfl⟩ := List.mem_map.mp hb
      exact scratchRefs_own L r hr)]
  rfl

end Own

/-! ## The tile's obligation -/

/-- A tile's program from its part, its own buffers and semaphores: its blocks end written. -/
theorem tile_body (hF : (K (F := F)).Facts) (L : grid0.Coords) (O : CellTallies nD τ sig (HIx 1)) (W : Waits sig (HIx 1)) (hO : ∀ g, O g none = 0) :
    iprop(levAts (K (F := F)).L (K (F := F)).lev ∗ emp ∗ part d A L 0 ∗ scopedBufs (tile d L) ∗ scopedSems0 (tile d L) ∗ owes (tile d L) O W)
      ⊢ wp frame (wpE (defs₀ (F := F)) 𝒱₀ (tile d L) none) Set.univ (tileProg (F := F) L)
          fun _ => iprop(part d A L 16 ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_tile, ownBufs_tile]
  unfold part
  iintro ⟨#Hlv, -, ⟨Hin, B0, B1⟩, ⟨Hs, Hs'⟩, ⟨Hm, Hm'⟩, HO⟩
  ihave Hmw := (show levAts (K (F := F)).L (K (F := F)).lev ⊢ Transfers.MayWaits (tile d L) (default : HIx 1) O from
    (K (F := F)).mayWaits_none (thr := tile d L) hO) $$ Hlv
  ihave Hwp := (tile_loop d L A.x A.y A.z (shareOf L) (shareOf L) (shareOf L) (shareOf L) (shareOf L) A.t0 A.t1 O W A.o0 A.o1)
    $$ [Hmw Hin B0 B1 Hs Hm HO]
  · isplitl [Hmw]; · iexact Hmw
    isplitl [Hin]; · iexact Hin
    isplitl [B0]; · iexact B0
    isplitl [B1]; · iexact B1
    isplitl [Hs]; · iexact Hs
    isplitl [Hm]; · iexact Hm
    iexact HO
  iapply (wp_wand frame _) $$ Hwp
  iintro %_ ⟨Hin, B0, B1, Hs, Hm, HO⟩
  isplitl [Hin B0 B1]
  · isplitl [Hin]; · iexact Hin
    isplitl [B0]; · iexact B0
    iexact B1
  isplitl [Hs Hs']
  · isplitl [Hs]; · iexact Hs
    iexact Hs'
  isplitl [Hm Hm']
  · isplitl [Hm]; · iexact Hm
    iexact Hm'
  iexact HO

/-- The body table at a tile: its program. -/
theorem defs₀_tile (c : Fin τ.nSC) (s : Fin τ.nSub) :
    defs₀ (F := F) (.scVector c s) 0 () = SparseCore.onTile hcore0 hsub0 (fun c s => tileProg (F := F) (at_ c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (A : Dev nD → Arrays F) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (A d) hF (at_ ⟨_, hci.1⟩ ⟨_, hci.2⟩) O W hO).trans (wp_mono frame _ _ fun _ => obl_post)

end Cert.Proof.WarpKernelIdeal

end
-- ==== Proof.LaunchKernelIdeal.lean ====
/-
  The arrays of the call whole are the tiles' parts; the host's operations around the call; the program's run.
-/
module

public import proofs.«01_k».proof.Proof.DealKernelIdeal

@[expose] public section

noncomputable section

namespace Cert.Proof.WarpKernelIdeal

open Cert.KernelIdeal Cert.KernelIdeal.Gen
open Idealize.ShloMosaic Idealize.ShloMosaic.StableHlo
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Rounds
open Idealize.ShloMosaic.Tactic
open Cert.Proof.Spec Cert.Proof.Lanes

variable {F : FTy → Type}

local notation "𝕄" => MT nD τ sig (HIx 1) (Elt F) ℕ UU ℕ

/-- An array of the host program, on device `d`. -/
abbrev hostLoc (d : Dev nD) (r : Ref sig .tc) : Loc nD τ sig := (d.tc : Thread nD τ).loc r

/-! ## Whole arrays as the tiles' parts -/

/-- The tiles, numbered. -/
def numbered : Fin 2 × Fin 16 ≃ Fin (2 ^ 5) := (Equiv.prodComm _ _).trans (finProdFinEquiv.trans (finCongr rfl))

theorem numbered_apply (c : Fin 2) (s : Fin 16) : numbered (c, s) = num (at_ c s) := by
  apply Fin.ext
  simp only [numbered, Equiv.trans_apply, Equiv.prodComm_apply, Prod.swap_prod_mk, finProdFinEquiv_apply_val, finCongr_apply, Fin.val_cast, num]
  rfl

/-- An array that all tiles read, whole, is their shares of it. -/
theorem shares (ℓ : Loc nD τ sig) (f : Buf (Elt F) ℓ) :
    (ℓ ↦{fullShare} f : sProp 𝕄) = bigSep Finset.univ fun c : Fin 2 => bigSep Finset.univ fun s : Fin 16 => ℓ ↦{shareOf (at_ c s)} f := by
  rw [ShareLeaves.pointsTo_leaves Finset.univ f 5 fullShare,
    bigSep_univ_equiv numbered (fun i : Fin (2 ^ 5) => (ℓ ↦{ShareLeaves.leaf 5 fullShare i} f : sProp 𝕄)), bigSep_univ_prod]
  simp only [numbered_apply]

/-- The block of a result that chunk `x.2.2` of tile `(x.1, x.2.1)` writes. -/
def block (x : Fin 2 × Fin 16 × Fin k0_t1_loop.trips) : Finset S2097152.Idx :=
  (Rect.unit (s := S2097152) (k0_off1 (at_ x.1 x.2.1) x.2.2) S4096.size (k0_off1_inb (at_ x.1 x.2.1) x.2.2)).set

theorem mem_block (x : Fin 2 × Fin 16 × Fin k0_t1_loop.trips) (n : S2097152.Idx) :
    n ∈ block x ↔ (n 0).val / 4096 = 32 * x.2.1.val + 16 * x.1.val + x.2.2.val := by
  unfold block
  rw [Rect.mem_set_unit, k0_off1_eq]
  have h : (∀ a : Fin 1, (![131072 * (at_ x.1 x.2.1 1).val + 65536 * (at_ x.1 x.2.1 0).val + 4096 * x.2.2.val] : Fin 1 → ℕ) a ≤ (n a).val
      ∧ (n a).val < (![131072 * (at_ x.1 x.2.1 1).val + 65536 * (at_ x.1 x.2.1 0).val + 4096 * x.2.2.val] : Fin 1 → ℕ) a + S4096.size a) ↔
      (131072 * x.2.1.val + 65536 * x.1.val + 4096 * x.2.2.val ≤ (n 0).val
        ∧ (n 0).val < 131072 * x.2.1.val + 65536 * x.1.val + 4096 * x.2.2.val + 4096) :=
    ⟨fun h => h 0, fun h a => by rw [Subsingleton.elim a 0]; exact h⟩
  refine h.trans ?_
  omega

theorem block_disjoint : ∀ x ∈ (Finset.univ : Finset (Fin 2 × Fin 16 × Fin k0_t1_loop.trips)),
    ∀ y ∈ (Finset.univ : Finset (Fin 2 × Fin 16 × Fin k0_t1_loop.trips)), x ≠ y → Disjoint (block x) (block y) := by
  intro x _ y _ hne
  rw [Finset.disjoint_left]
  intro n hx hy
  rw [mem_block] at hx hy
  obtain ⟨c, s, t⟩ := x
  obtain ⟨c', s', t'⟩ := y
  have ht : t.val < 16 := t.isLt
  have ht' : t'.val < 16 := t'.isLt
  have hc := c.isLt
  have hc' := c'.isLt
  simp only at hx hy
  exact hne (Prod.ext (Fin.ext (by show c.val = c'.val; omega)) (Prod.ext (Fin.ext (by show s.val = s'.val; omega)) (Fin.ext (by show t.val = t'.val; omega))))

theorem block_cover : (Finset.univ : Finset (Fin 2 × Fin 16 × Fin k0_t1_loop.trips)).biUnion block = Finset.univ := by
  ext n
  simp only [Finset.mem_biUnion, Finset.mem_univ, true_and, iff_true]
  have hn : (n 0).val < 2097152 := (n 0).isLt
  refine ⟨(⟨(n 0).val / 65536 % 2, by omega⟩, ⟨(n 0).val / 131072, by omega⟩, ⟨(n 0).val / 4096 % 16, ?_⟩), (mem_block _ n).mpr ?_⟩
  · show _ < 16
    omega
  · show (n 0).val / 4096 = 32 * ((n 0).val / 131072) + 16 * ((n 0).val / 65536 % 2) + (n 0).val / 4096 % 16
    omega

/-- The first result whole is its blocks, tile by tile. -/
theorem blocks0 (d : Dev nD) (f : Buf (Elt F) (o0M.view.loc (tile d (at_ 0 0)))) :
    (hostLoc d main_v10_0 ↦{fullShare} f : sProp 𝕄) = bigSep Finset.univ fun c : Fin 2 => bigSep Finset.univ fun s : Fin 16 =>
      bigSep Finset.univ fun t : Fin k0_t1_loop.trips =>
        (chunkM (at_ c s) o0M t).view.loc (tile d (at_ c s)) ↦[(chunkM (at_ c s) o0M t).view.set]{fullShare} f := by
  have h : (hostLoc d main_v10_0 ↦{fullShare} f : sProp 𝕄)
      = bigSep Finset.univ fun x : Fin 2 × Fin 16 × Fin k0_t1_loop.trips => hostLoc d main_v10_0 ↦[block x]{fullShare} f := by
    rw [← pointsTo_biUnion Finset.univ (ℓ := hostLoc d main_v10_0) block block_disjoint, block_cover]
  rw [h, bigSep_univ_prod]
  refine bigSep_congr fun c _ => ?_
  rw [bigSep_univ_prod]
  refine bigSep_congr fun s _ => bigSep_congr fun t _ => ?_
  rw [show (chunkM (at_ c s) o0M t).view.set = block (c, s, t) from by
    show ((View.whole (main_v10_0_scv : Ref sig .scVector)).slice _).set = _
    rw [View.set_slice]; exact Finset.map_refl]

/-- The second result whole is its blocks, tile by tile. -/
theorem blocks1 (d : Dev nD) (f : Buf (Elt F) (o1M.view.loc (tile d (at_ 0 0)))) :
    (hostLoc d main_v10_1 ↦{fullShare} f : sProp 𝕄) = bigSep Finset.univ fun c : Fin 2 => bigSep Finset.univ fun s : Fin 16 =>
      bigSep Finset.univ fun t : Fin k0_t1_loop.trips =>
        (chunkM (at_ c s) o1M t).view.loc (tile d (at_ c s)) ↦[(chunkM (at_ c s) o1M t).view.set]{fullShare} f := by
  have h : (hostLoc d main_v10_1 ↦{fullShare} f : sProp 𝕄)
      = bigSep Finset.univ fun x : Fin 2 × Fin 16 × Fin k0_t1_loop.trips => hostLoc d main_v10_1 ↦[block x]{fullShare} f := by
    rw [← pointsTo_biUnion Finset.univ (ℓ := hostLoc d main_v10_1) block block_disjoint, block_cover]
  rw [h, bigSep_univ_prod]
  refine bigSep_congr fun c _ => ?_
  rw [bigSep_univ_prod]
  refine bigSep_congr fun s _ => bigSep_congr fun t _ => ?_
  rw [show (chunkM (at_ c s) o1M t).view.set = block (c, s, t) from by
    show ((View.whole (main_v10_1_scv : Ref sig .scVector)).slice _).set = _
    rw [View.set_slice]; exact Finset.map_refl]

/-- No block written, all written. -/
theorem blocks_none (d : Dev nD) (L : grid0.Coords) (m : Memref sig .scVector .hbm S2097152 .f32) (f G : Buf (Elt F) (m.view.loc (tile d L))) :
    blocks d L m f G 0 = bigSep Finset.univ fun t : Fin k0_t1_loop.trips =>
      (chunkM L m t).view.loc (tile d L) ↦[(chunkM L m t).view.set]{fullShare} f :=
  bigSep_congr fun t _ => by rw [if_neg (Nat.not_lt_zero _)]

theorem blocks_every (d : Dev nD) (L : grid0.Coords) (m : Memref sig .scVector .hbm S2097152 .f32) (f G : Buf (Elt F) (m.view.loc (tile d L))) :
    blocks d L m f G 16 = bigSep Finset.univ fun t : Fin k0_t1_loop.trips =>
      (chunkM L m t).view.loc (tile d L) ↦[(chunkM L m t).view.set]{fullShare} G :=
  bigSep_congr fun t _ => by rw [if_pos (show t.val < 16 from t.isLt)]

/-- The arrays of the call, whole, the results at `o0` and `o1`. -/
def whole (d : Dev nD) (A : Arrays F) (o0 o1 : (Line 2097152).Idx → F .f32) : sProp 𝕄 :=
  iprop((hostLoc d main_v3 ↦{fullShare} A.t0) ∗ (hostLoc d main_v6 ↦{fullShare} A.t1) ∗ (hostLoc d main_v7 ↦{fullShare} A.x)
    ∗ (hostLoc d main_v8 ↦{fullShare} A.y) ∗ (hostLoc d main_v9 ↦{fullShare} A.z) ∗ (hostLoc d main_v10_0 ↦{fullShare} o0)
    ∗ (hostLoc d main_v10_1 ↦{fullShare} o1))

theorem regroup (a b c d e f g : sProp 𝕄) : iprop(a ∗ b ∗ c ∗ d ∗ e ∗ f ∗ g) = iprop((a ∗ b ∗ c ∗ d ∗ e) ∗ f ∗ g) := by
  have h : ∀ p q r : sProp 𝕄, iprop((p ∗ q) ∗ r) = iprop(p ∗ q ∗ r) := fun _ _ _ => equiv_iff.mp ⟨BI.sep_assoc, BI.sep_assoc'⟩
  simp only [h]

variable [FloatOps F]

theorem whole_eq (d : Dev nD) (A : Arrays F) (o0 o1 : (Line 2097152).Idx → F .f32) (k : ℕ)
    (h0 : ∀ L, blocks d L o0M A.o0 (volume A.t0 A.x A.y A.z) k = bigSep Finset.univ fun t : Fin k0_t1_loop.trips =>
      ((chunkM L o0M t).view.loc (tile d L) ↦[(chunkM L o0M t).view.set]{fullShare} o0 : sProp 𝕄))
    (h1 : ∀ L, blocks d L o1M A.o1 (volume A.t1 A.x A.y A.z) k = bigSep Finset.univ fun t : Fin k0_t1_loop.trips =>
      ((chunkM L o1M t).view.loc (tile d L) ↦[(chunkM L o1M t).view.set]{fullShare} o1 : sProp 𝕄)) :
    whole d A o0 o1 = bigSep Finset.univ fun c : Fin 2 => parts d A c k := by
  unfold whole parts part tileIn
  simp only [h0, h1]
  rw [shares (F := F) (hostLoc d main_v3), shares (F := F) (hostLoc d main_v6), shares (F := F) (hostLoc d main_v7),
    shares (F := F) (hostLoc d main_v8), shares (F := F) (hostLoc d main_v9), blocks0, blocks1]
  simp only [bigSep_sep']
  exact regroup _ _ _ _ _ _ _

/-- Before the call: the arrays whole are all tiles' parts, -/
theorem whole_before (d : Dev nD) (A : Arrays F) : whole d A A.o0 A.o1 = bigSep Finset.univ fun c : Fin 2 => parts d A c 0 :=
  whole_eq d A A.o0 A.o1 0 (fun _ => blocks_none d _ o0M _ _) (fun _ => blocks_none d _ o1M _ _)

/-- and after it, with both results the warped volumes. -/
theorem whole_after (d : Dev nD) (A : Arrays F) :
    whole d A (volume A.t0 A.x A.y A.z) (volume A.t1 A.x A.y A.z) = bigSep Finset.univ fun c : Fin 2 => parts d A c 16 :=
  whole_eq d A _ _ 16 (fun _ => blocks_every d _ o0M _ _) (fun _ => blocks_every d _ o1M _ _)

/-! ## The host's operations -/

/-- The host's operations before the call: the padded field cut into two tables, everything flattened. -/
def opsA : List (HloOp τ sig (Elt F)) :=
  [
    nullary main_c (constantI S_ 32 0#32),
    TRef.unary (TRef.of (T := ⟨S_, .i32⟩) main_c) (TRef.of (T := ⟨S_, .f32⟩) main_call0_v0) (sitofp .f32),
    TRef.binary (TRef.of (T := ⟨S1x2x128x128x128, .f32⟩) main_arg0) (TRef.of (T := ⟨S_, .f32⟩) main_call0_v0) (TRef.of (T := ⟨S1x2x130x130x130, .f32⟩) main_v0) (fun x v => pad S1x2x130x130x130 ![0, 0, 1, 1, 1] ![0, 0, 1, 1, 1] ![0, 0, 0, 0, 0] x v pads_S1x2x128x128x128_S1x2x130x130x130_000_000_110_110_110 h_S_),
    unary main_v0 main_v1 ((extractStridedSlice S1x1x130x130x130 ![0, 0, 0, 0, 0] · slices_S1x2x130x130x130_S1x1x130x130x130_0_0_0_0_0) : (⟨S1x2x130x130x130, .f32⟩ : BufTy).Contents (Elt F) → (⟨S1x1x130x130x130, .f32⟩ : BufTy).Contents (Elt F)),
    reshape main_v1 main_v2 (rfl : (.f32 : EltTy) = .f32) shapeCasts_S1x1x130x130x130_S130x130x130,
    reshape main_v2 main_v3 (rfl : (.f32 : EltTy) = .f32) shapeCasts_S130x130x130_S2197000,
    unary main_v0 main_v4 ((extractStridedSlice S1x1x130x130x130 ![0, 1, 0, 0, 0] · slices_S1x2x130x130x130_S1x1x130x130x130_0_1_0_0_0) : (⟨S1x2x130x130x130, .f32⟩ : BufTy).Contents (Elt F) → (⟨S1x1x130x130x130, .f32⟩ : BufTy).Contents (Elt F)),
    reshape main_v4 main_v5 (rfl : (.f32 : EltTy) = .f32) shapeCasts_S1x1x130x130x130_S130x130x130,
    reshape main_v5 main_v6 (rfl : (.f32 : EltTy) = .f32) shapeCasts_S130x130x130_S2197000,
    reshape main_arg1 main_v7 (rfl : (.f32 : EltTy) = .f32) shapeCasts_S1x128x128x128_S2097152,
    reshape main_arg2 main_v8 (rfl : (.f32 : EltTy) = .f32) shapeCasts_S1x128x128x128_S2097152,
    reshape main_arg3 main_v9 (rfl : (.f32 : EltTy) = .f32) shapeCasts_S1x128x128x128_S2097152]

/-- The host's operations after the call: the two results stacked. -/
def opsB : List (HloOp τ sig (Elt F)) :=
  [
    unary main_v10_0 main_v11 (broadcastInDim S1x2097152 ![1] bcast_S2097152_S1x2097152_1 : (⟨S2097152, .f32⟩ : BufTy).Contents (Elt F) → (⟨S1x2097152, .f32⟩ : BufTy).Contents (Elt F)),
    unary main_v10_1 main_v12 (broadcastInDim S1x2097152 ![1] bcast_S2097152_S1x2097152_1 : (⟨S2097152, .f32⟩ : BufTy).Contents (Elt F) → (⟨S1x2097152, .f32⟩ : BufTy).Contents (Elt F)),
    binary main_v11 main_v12 main_v13 ((fun a b => concatenate S2x2097152 0 [⟨S1x2097152, a⟩, ⟨S1x2097152, b⟩] concatenates_S1x2097152_S1x2097152_S2x2097152_d0) : (⟨S1x2097152, .f32⟩ : BufTy).Contents (Elt F) → (⟨S1x2097152, .f32⟩ : BufTy).Contents (Elt F) → (⟨S2x2097152, .f32⟩ : BufTy).Contents (Elt F)),
    reshape main_v13 main_v14 (rfl : (.f32 : EltTy) = .f32) shapeCasts_S2x2097152_S1x2x128x128x128]

theorem main_eq (d : Dev nD) : main (F := F) d = (seq opsA >>= fun _ => (K (F := F)).run d 0 >>= fun _ => seq opsB) := rfl

theorem opsA_sub : (opsA : List (HloOp τ sig (Elt F))).Forall fun op => op.bufs ⊆ tcRefs τ sig :=
  ⟨nullary_bufs_sub .., unary_bufs_sub .., binary_bufs_sub .., unary_bufs_sub .., reshape_bufs_sub .., reshape_bufs_sub .., unary_bufs_sub ..,
    reshape_bufs_sub .., reshape_bufs_sub .., reshape_bufs_sub .., reshape_bufs_sub .., reshape_bufs_sub ..⟩

theorem opsA_fresh : (opsA : List (HloOp τ sig (Elt F))).Forall fun op => op.fresh = ∅ :=
  ⟨rfl, rfl, rfl, rfl, rfl, rfl, rfl, rfl, rfl, rfl, rfl, rfl⟩

omit [FloatOps F] in
theorem opsB_sub : (opsB : List (HloOp τ sig (Elt F))).Forall fun op => op.bufs ⊆ tcRefs τ sig :=
  ⟨unary_bufs_sub .., unary_bufs_sub .., binary_bufs_sub .., reshape_bufs_sub ..⟩

omit [FloatOps F] in
theorem opsB_fresh : (opsB : List (HloOp τ sig (Elt F))).Forall fun op => op.fresh = ∅ := ⟨rfl, rfl, rfl, rfl⟩

/-! ## The program's run -/

variable (m : (ℓ : Loc nD τ sig) → Buf (Elt F) ℓ) (ρ : Dev nD → PrngReg)

/-- What the host's buffers hold when the call starts. -/
def atCall (d : Dev nD) : Valuation τ sig (Elt F) := after opsA (launchContents m d)

/-- The call's arrays. -/
def arrays (d : Dev nD) : Arrays F where
  t0 := atCall m d (Proc.devRef .tc main_v3)
  t1 := atCall m d (Proc.devRef .tc main_v6)
  x := atCall m d (Proc.devRef .tc main_v7)
  y := atCall m d (Proc.devRef .tc main_v8)
  z := atCall m d (Proc.devRef .tc main_v9)
  o0 := atCall m d (Proc.devRef .tc main_v10_0)
  o1 := atCall m d (Proc.devRef .tc main_v10_1)

/-- The two results of the call. -/
abbrev out0 (d : Dev nD) : (Line 2097152).Idx → F .f32 := volume (arrays m d).t0 (arrays m d).x (arrays m d).y (arrays m d).z
abbrev out1 (d : Dev nD) : (Line 2097152).Idx → F .f32 := volume (arrays m d).t1 (arrays m d).x (arrays m d).y (arrays m d).z

/-- What the host's buffers hold when the call is done, -/
def called (d : Dev nD) : Valuation τ sig (Elt F) :=
  Function.update (Function.update (atCall m d) (Proc.devRef .tc main_v10_0) (out0 m d)) (Proc.devRef .tc main_v10_1) (out1 m d)

/-- and at the end. -/
def final (d : Dev nD) : Valuation τ sig (Elt F) := after opsB (called m d)

/-- The host's arrays that the call works on. -/
def callRefs : Finset (DevRef τ sig) :=
  {Proc.devRef .tc main_v3, Proc.devRef .tc main_v6, Proc.devRef .tc main_v7, Proc.devRef .tc main_v8, Proc.devRef .tc main_v9,
    Proc.devRef .tc main_v10_0, Proc.devRef .tc main_v10_1}

theorem callRefs_sub : callRefs ⊆ tcRefs τ sig := by
  intro b hb
  simp only [callRefs, Finset.mem_insert, Finset.mem_singleton] at hb
  rcases hb with rfl | rfl | rfl | rfl | rfl | rfl | rfl <;> exact devRef_mem_tcRefs _

omit [FloatOps F] in
theorem held_callRefs (d : Dev nD) (V : Valuation τ sig (Elt F)) :
    (held (d.tc : Thread nD τ) callRefs V : sProp 𝕄) = whole d
      ⟨V (Proc.devRef .tc main_v3), V (Proc.devRef .tc main_v6), V (Proc.devRef .tc main_v7), V (Proc.devRef .tc main_v8), V (Proc.devRef .tc main_v9),
        V (Proc.devRef .tc main_v10_0), V (Proc.devRef .tc main_v10_1)⟩ (V (Proc.devRef .tc main_v10_0)) (V (Proc.devRef .tc main_v10_1)) := by
  unfold held callRefs whole
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_atCall (d : Dev nD) : (held (d.tc : Thread nD τ) (tcRefs τ sig) (atCall m d) : sProp 𝕄)
    = iprop(whole d (arrays m d) (arrays m d).o0 (arrays m d).o1 ∗ held (d.tc : Thread nD τ) (tcRefs τ sig \ callRefs) (atCall m d)) := by
  rw [held_sub_split _ callRefs_sub, held_callRefs]
  rfl

theorem held_called (d : Dev nD) : (held (d.tc : Thread nD τ) (tcRefs τ sig) (called m d) : sProp 𝕄)
    = iprop(whole d (arrays m d) (out0 m d) (out1 m d) ∗ held (d.tc : Thread nD τ) (tcRefs τ sig \ callRefs) (atCall m d)) := by
  have hne : ∀ b, b ≠ (Proc.devRef .tc main_v10_0 : DevRef τ sig) → b ≠ (Proc.devRef .tc main_v10_1 : DevRef τ sig) → called m d b = atCall m d b := by
    intro b h0 h1
    unfold called
    rw [Function.update_of_ne h1, Function.update_of_ne h0]
  rw [held_sub_split _ callRefs_sub, held_callRefs, hne _ (by decide) (by decide), hne _ (by decide) (by decide), hne _ (by decide) (by decide),
    hne _ (by decide) (by decide), hne _ (by decide) (by decide),
    show called m d (Proc.devRef .tc main_v10_0) = out0 m d from by
      unfold called
      rw [Function.update_of_ne (by decide), Function.update_self],
    show called m d (Proc.devRef .tc main_v10_1) = out1 m d from by
      unfold called
      rw [Function.update_self],
    held_congr (d.tc : Thread nD τ) (S := tcRefs τ sig \ callRefs) (V := called m d) (V' := atCall m d) fun b hb => hne b
      (fun e => (Finset.mem_sdiff.mp hb).2 (by subst e; decide)) (fun e => (Finset.mem_sdiff.mp hb).2 (by subst e; decide))]
  rfl

omit [FloatOps F] in
theorem unscoped_held (d : Dev nD) :
    (unscopedBufs d (fun b => m ((SparseCore.T d).loc b)) : sProp 𝕄) = held (d.tc : Thread nD τ) (tcRefs τ sig) (launchContents m d) := by
  unfold unscopedBufs held tcRefs
  rw [show (Finset.univ.filter fun b : Ref sig .tc => ¬ b.isScoped) = Finset.univ by decide, bigSep_map]
  rfl

/-- What is left of the host at the end: its buffers. -/
abbrev FIN (d : Dev nD) : sProp 𝕄 := held (d.tc : Thread nD τ) (tcRefs τ sig) (final m d)

attribute [local irreducible] parts

omit [FloatOps F] in
theorem bigSep_cast {n n' : ℕ} (h : n = n') (f : Fin n' → sProp 𝕄) :
    (bigSep Finset.univ fun c : Fin n => f (Fin.cast h c)) = bigSep Finset.univ f := by
  subst h
  rfl

theorem st_eq (A : Dev nD → Arrays F) (d : Dev nD) : (bigSep Finset.univ fun c : Fin ((K (F := F)).nCore 0) => (P A).st 0 d c)
    = bigSep Finset.univ fun c : Fin 2 => parts d (A d) c 0 := bigSep_cast nCore_zero fun c => parts d (A d) c 0

theorem dn_eq (A : Dev nD → Arrays F) (d : Dev nD) : (bigSep Finset.univ fun c : Fin ((K (F := F)).nCore 0) => (P A).dn 0 d c)
    = bigSep Finset.univ fun c : Fin 2 => parts d (A d) c 16 := bigSep_cast nCore_zero fun c => parts d (A d) c 16

/-- The host program: its buffers end at `final`. -/
theorem hmain (κ : GSem nD τ sig → ℕ) (d : Dev nD) :
    iprop((K (F := F)).ctx EH (P (arrays m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq, show seq (nD := nD) (opsB (F := F)) = (seq opsB >>= fun u => Pure.pure u) from (bind_pure _).symm]
  iintro ⟨#Hctx, Hst, ⟨Hb, Hheld, Hts, -⟩, -⟩
  iapply (wp_seq 𝒱 none Set.univ d (tcRefs τ sig) _ opsA (List.forall_iff_forall_mem.mp opsA_sub) (List.forall_iff_forall_mem.mp opsA_fresh)
    (launchContents m d)) $$ [Hb Hheld]
  · isplitl [Hb]; · iexact Hb
    iexact Hheld
  iintro ⟨Hb, Hheld⟩
  ihave Hh := (show held (d.tc : Thread nD τ) (tcRefs τ sig) (after opsA (launchContents m d)) ⊢ _ from Entails.of_eq (held_atCall m d)) $$ Hheld
  icases Hh with ⟨Hw, Hr⟩
  ihave Hp := (Entails.of_eq ((whole_before d (arrays m d)).trans (st_eq (arrays m) d).symm)) $$ Hw
  rw [wp_bind]
  iapply ((K (F := F)).wp_run (D (F := F)) 𝒱 (EH := EH) (P := P (arrays m)) κ d 0) $$ [Hst Hp Hb Hr Hts]
  isplitr; · iexact Hctx
  isplitl [Hst]; · iexact Hst
  isplitl [Hp]; · iexact Hp
  iintro ⟨Hst, Hdn⟩
  ihave Hw := (Entails.of_eq ((dn_eq (arrays m) d).trans (whole_after d (arrays m d)).symm)) $$ Hdn
  iapply (wp_seq 𝒱 none Set.univ d (tcRefs τ sig) _ opsB (List.forall_iff_forall_mem.mp opsB_sub) (List.forall_iff_forall_mem.mp opsB_fresh)
    (called m d)) $$ [Hb Hw Hr]
  · isplitl [Hb]; · iexact Hb
    rw [held_called]
    isplitl [Hw]; · iexact Hw
    iexact Hr
  iintro ⟨Hb, Hheld⟩
  rw [wp_pure]
  imodintro
  isplitl [Hst]; · iexact Hst
  isplitl [Hheld]; · iexact Hheld
  isplitl [Hb]; · iexact Hb
  iexact Hts

/-- The memory's host buffers are at `final`. -/
def fq (d : Dev nD) (s' : Phys nD τ sig (Elt F)) : Prop :=
  ∀ b : Ref sig .tc, s'.mem.mem (hostLoc d b) = final m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

def u₀ : UU := (initOf (K (F := F)).hsCells (K (F := F)).hsToks, 1)

theorem hu₀ (A : Dev nD → Arrays F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) A).x q thr) = iprop(emp) from
    (bigSep_congr fun _ _ => bigSep_univ_of_subsingleton (0 : Fin 1)).trans (bigSep_emp_const _)]
  iempintro

/-- Every run of the program ends with the host's buffers at `final`, and every semaphore counter at zero. -/
theorem run_main [∀ e, Nonempty (Elt F e)] :
    θ_run (Cert.KernelIdeal.defs (F := F)) (Cert.KernelIdeal.threads (F := F)) ⟨m, fun _ => 0, ρ⟩
      fun r => (∀ (d : Dev nD) (b : Ref sig .tc), r.2.mem (hostLoc d b) = final m d (Proc.devRef .tc b)) ∧ r.2.sem = fun _ => 0 :=
  SparseCore.Cfg.θ_run_sc_quiescent (K := K (F := F)) (D := D (F := F)) (𝒱 := 𝒱) (EH := EH) (P := P (arrays m)) (A := ∅) facts v₀
    (fun q hq => match q with | 0 => nomatch hq)
    (fun q _ => match q with | 0 => tileObl facts (arrays m))
    (fun q _ => match q with | 0 => SparseCore.Cfg.VecSplit.of_plain (vecSplit (arrays m)))
    m ρ main (fun _ => iprop(emp)) (FIN m) (u₀ (F := F)) (sep_elim_left.trans (hu₀ (arrays m))) (hmain m ρ) (fq m) (hfin m) _ (fun _ h hz => ⟨h, hz⟩)

end Cert.Proof.WarpKernelIdeal

end
-- ==== Proof.Arrays.lean ====
/-
  The arrays of the kernel's call, and its result, read at one index.
-/
module

public import Idealize.ShloMosaic.Lib.Pipeline.Value
public import proofs.«01_k».proof.Proof.Volume
public import proofs.«01_k».proof.Proof.LaunchKernelIdeal

@[expose] public section

noncomputable section

namespace Cert.Proof.WarpKernelIdeal

open Cert.KernelIdeal Cert.KernelIdeal.Gen
open Idealize.ShloMosaic Idealize.ShloMosaic.StableHlo Idealize.ShloMosaic.ValueIdx
open Cert.Proof.Spec Cert.Proof.Lanes Cert.Proof.Tables Cert.Proof.Volume

variable {F : FTy → Type} [FloatOps F] (m : (ℓ : Loc nD τ sig) → Buf (Elt F) ℓ) (d : Dev nD)

theorem rowMajor_vox (n : Fin 2097152) : (Grid.rowMajor (vox n)).val = ((Line 2097152).rowMajor (ix1 n)).val := by
  rw [Shape.rowMajor_val_four, Shape.rowMajor_val_one]
  show ((0 * 128 + n.val / 16384) * 128 + n.val / 128 % 128) * 128 + n.val % 128 = n.val
  omega

/-! ## The displacements -/

theorem arrays_x : (arrays m d).x = shapeCast S2097152 (m (hostLoc d main_arg1)) shapeCasts_S1x128x128x128_S2097152 := by
  unfold arrays atCall opsA
  dsimp only
  after_results_simp
  rfl

theorem arrays_y : (arrays m d).y = shapeCast S2097152 (m (hostLoc d main_arg2)) shapeCasts_S1x128x128x128_S2097152 := by
  unfold arrays atCall opsA
  dsimp only
  after_results_simp
  rfl

theorem arrays_z : (arrays m d).z = shapeCast S2097152 (m (hostLoc d main_arg3)) shapeCasts_S1x128x128x128_S2097152 := by
  unfold arrays atCall opsA
  dsimp only
  after_results_simp
  rfl

theorem x_apply (n : Fin 2097152) : (arrays m d).x (ix1 n) = (m (hostLoc d main_arg1) : FVec F S1x128x128x128 .f32) (vox n) := by
  rw [arrays_x]; exact shapeCast_apply _ _ _ _ (rowMajor_vox n)

theorem y_apply (n : Fin 2097152) : (arrays m d).y (ix1 n) = (m (hostLoc d main_arg2) : FVec F S1x128x128x128 .f32) (vox n) := by
  rw [arrays_y]; exact shapeCast_apply _ _ _ _ (rowMajor_vox n)

theorem z_apply (n : Fin 2097152) : (arrays m d).z (ix1 n) = (m (hostLoc d main_arg3) : FVec F S1x128x128x128 .f32) (vox n) := by
  rw [arrays_z]; exact shapeCast_apply _ _ _ _ (rowMajor_vox n)

/-! ## The tables -/

theorem arrays_t0 : (arrays m d).t0 = shapeCast S2197000 (shapeCast S130x130x130
    (extractStridedSlice S1x1x130x130x130 ![0, 0, 0, 0, 0] (padded (m (hostLoc d main_arg0) : FVec F S1x2x128x128x128 .f32))
      slices_S1x2x130x130x130_S1x1x130x130x130_0_0_0_0_0) shapeCasts_S1x1x130x130x130_S130x130x130) shapeCasts_S130x130x130_S2197000 := by
  unfold arrays atCall opsA
  dsimp only
  after_results_simp
  rfl

theorem arrays_t1 : (arrays m d).t1 = shapeCast S2197000 (shapeCast S130x130x130
    (extractStridedSlice S1x1x130x130x130 ![0, 1, 0, 0, 0] (padded (m (hostLoc d main_arg0) : FVec F S1x2x128x128x128 .f32))
      slices_S1x2x130x130x130_S1x1x130x130x130_0_1_0_0_0) shapeCasts_S1x1x130x130x130_S130x130x130) shapeCasts_S130x130x130_S2197000 := by
  unfold arrays atCall opsA
  dsimp only
  after_results_simp
  rfl

omit [FloatOps F] in
/-- A channel cut out of a padded field and flattened, at a corner's position, is the field's entry there. -/
theorem table_apply (P : FVec F S1x2x130x130x130 .f32) (c : Fin 2) (h : S1x2x130x130x130.Slices ![0, c.val, 0, 0, 0] S1x1x130x130x130)
    {y x z : BitVec 32} (hy : y.toNat < 130) (hx : x.toNat < 130) (hz : z.toNat < 130) :
    tab (shapeCast S2197000 (shapeCast S130x130x130 (extractStridedSlice S1x1x130x130x130 ![0, c.val, 0, 0, 0] P h)
      shapeCasts_S1x1x130x130x130_S130x130x130) shapeCasts_S130x130x130_S2197000) (cell y x z) = P (ix5 0 c (coord y) (coord x) (coord z)) := by
  rw [tab_of_lt _ _ (cell_lt hy hx hz)]
  refine (shapeCast_apply _ _ _ (ix3 (coord y) (coord x) (coord z)) ?_).trans ?_
  · rw [Shape.rowMajor_val_three, Shape.rowMajor_val_one]
    show ((coord y).val * 130 + (coord x).val) * 130 + (coord z).val = (cell y x z).toNat
    rw [coord_val hy, coord_val hx, coord_val hz, cell_toNat hy hx hz]
    omega
  refine (shapeCast_apply _ _ _ (ix5 0 0 (coord y) (coord x) (coord z)) ?_).trans ?_
  · rw [Shape.rowMajor_val_five, Shape.rowMajor_val_three]
    show (((0 * 1 + 0) * 130 + (coord y).val) * 130 + (coord x).val) * 130 + (coord z).val = ((coord y).val * 130 + (coord x).val) * 130 + (coord z).val
    omega
  refine extractStridedSlice_apply _ _ _ _ _ fun a => ?_
  match a with
  | ⟨0, _⟩ => rfl
  | ⟨1, _⟩ => rfl
  | ⟨2, _⟩ => exact (Nat.zero_add _).symm
  | ⟨3, _⟩ => exact (Nat.zero_add _).symm
  | ⟨4, _⟩ => exact (Nat.zero_add _).symm

/-- Channel `c`'s table. -/
def table (c : Fin 2) : (Line 2197000).Idx → F .f32 := if c = 0 then (arrays m d).t0 else (arrays m d).t1

/-- A channel's table at a corner's position is the padded field's entry there. -/
theorem tab_cell (c : Fin 2) {y x z : BitVec 32} (hy : y.toNat < 130) (hx : x.toNat < 130) (hz : z.toNat < 130) :
    tab (table m d c) (cell y x z) = entry (m (hostLoc d main_arg0) : FVec F S1x2x128x128x128 .f32) c y x z := by
  unfold table
  match c with
  | 0 => rw [if_pos rfl, arrays_t0]; exact table_apply _ 0 _ hy hx hz
  | 1 => rw [if_neg (by decide), arrays_t1]; exact table_apply _ 1 _ hy hx hz

/-! ## The result -/

/-- Both channels' warped volumes. -/
def warped (k : S2x2097152.Idx) : F .f32 :=
  voxel (tab (table m d (k 0))) ((arrays m d).x (ix1 (k 1))) ((arrays m d).y (ix1 (k 1))) ((arrays m d).z (ix1 (k 1))) (BitVec.ofNat 32 (k 1).val)

/-- The two volumes stacked. -/
def stacked : FVec F S2x2097152 .f32 :=
  concatenate S2x2097152 0 [⟨S1x2097152, broadcastInDim S1x2097152 ![1] bcast_S2097152_S1x2097152_1 (out0 m d : FVec F S2097152 .f32)⟩,
    ⟨S1x2097152, broadcastInDim S1x2097152 ![1] bcast_S2097152_S1x2097152_1 (out1 m d : FVec F S2097152 .f32)⟩] concatenates_S1x2097152_S1x2097152_S2x2097152_d0

theorem final_v14 : final m d (Proc.devRef .tc main_v14) = shapeCast S1x2x128x128x128 (stacked m d) shapeCasts_S2x2097152_S1x2x128x128x128 := by
  unfold final opsB
  after_results_simp
  rfl

theorem stacked_eq : stacked m d = warped m d := by
  funext k
  obtain ⟨c, n, rfl⟩ : ∃ c n, k = ix2 c n := ⟨k 0, k 1, eq_ix2 k⟩
  unfold stacked
  match c with
  | 0 =>
    refine (concatenate_pair_apply_left (t := S2x2097152) (s₁ := S1x2097152) (s₂ := S1x2097152) 0 _ _ _ (ix2 0 n) rfl (ix2 0 n)
      (fun b => match b with | ⟨0, _⟩ => rfl | ⟨1, _⟩ => rfl)).trans ?_
    refine (broadcastInDim_apply _ _ _ (ix2 0 n) (ix1 n) (fun a => by obtain rfl : a = 0 := Subsingleton.elim _ _; rfl)).trans ?_
    rfl
  | 1 =>
    refine (concatenate_pair_apply_right (t := S2x2097152) (s₁ := S1x2097152) (s₂ := S1x2097152) 0 _ _ _ (ix2 1 n) rfl rfl (ix2 0 n)
      (fun b hb => match b, hb with | ⟨0, _⟩, hb => absurd rfl hb | ⟨1, _⟩, _ => rfl) rfl).trans ?_
    refine (broadcastInDim_apply _ _ _ (ix2 0 n) (ix1 n) (fun a => by obtain rfl : a = 0 := Subsingleton.elim _ _; rfl)).trans ?_
    rfl

end Cert.Proof.WarpKernelIdeal

end
-- ==== Proof.Lookup.lean ====
/-
  The reference's result as one sum of eight products at each voxel, its corners looked up in the flattened padded volume.
-/
module

public import Idealize.ShloMosaic.Lib.ReduceAll
public import Idealize.ShloMosaic.Lib.Routing.OpsSet
public import Idealize.ShloMosaic.Lib.Pipeline.Value
public import proofs.«01_k».proof.Proof.Spec
public import proofs.«01_k».proof.Proof.Gen.ReferenceIdeal.Run

@[expose] public section

noncomputable section

namespace Cert.Proof.WarpReference

open Cert.ReferenceIdeal Cert.ReferenceIdeal.Gen Cert.ReferenceIdeal.Value
open Idealize.ShloMosaic Idealize.ShloMosaic.StableHlo Idealize.ShloMosaic.ValueIdx Idealize.SL.Sem
open Cert.Proof.Spec (dot8 wts)

variable {F : FTy → Type} [FloatOps F]

/-! ## Looking up a position in a table -/

/-- The positions as the lookup takes them: one that is negative counts from the table's end. -/
def wrapped (w : IVec S4194304 32) : IVec S4194304x1 32 :=
  broadcastInDim S4194304x1 ![0] bcast_S4194304_S4194304x1_0
    (select (cmpi .slt w (broadcastInDim S4194304 ![] bcast_S_S4194304 (constantI S_ 32 0#32)))
      (addi w (broadcastInDim S4194304 ![] bcast_S_S4194304 (constantI S_ 32 4394000#32))) w)

/-- Which positions lie in the table. -/
def inside (i : IVec S4194304x1 32) : IVec S4194304x1 1 :=
  andi (cmpi .sge i (broadcastInDim S4194304x1 ![] bcast_S_S4194304x1 (constantI S_ 32 0#32)))
    (cmpi .sle i (broadcastInDim S4194304x1 ![0, 1] bcast_S1x1_S4194304x1_0_1 (broadcastInDim S1x1 ![1] bcast_S1_S1x1_1 (constantI S1 32 4393999#32))))

/-- The table's entries at the positions `w`, and no number where a position lies outside. -/
def lookup (T : FVec F S4394000 .f32) (w : IVec S4194304 32) : FVec F S4194304 .f32 :=
  select (Host.reduce IntOp.andi (inside (wrapped w)) (constantI S_ 1 1#1) reducesTo_S4194304x1_S4194304_d1 h_S_)
    (Host.gather gather_S4394000_S4194304x1_S4194304_n_0_n_n_0_1_1 T (wrapped w))
    (broadcastInDim S4194304 ![] bcast_S_S4194304 (constant S_ .f32 0x7FC00000#32))

theorem toInt_small {w : BitVec 32} (h : w.toNat < 4394000) : w.toInt = w.toNat := by
  rw [BitVec.toInt_eq_toNat_of_lt (by omega)]

theorem not_slt_zero {w : BitVec 32} (h : w.toNat < 4394000) : w.slt 0#32 = false := by
  rw [BitVec.slt_eq_decide, toInt_small h]
  simp

/-- A position in the table is taken as it is. -/
theorem wrapped_apply (w : IVec S4194304 32) (p : Fin 4194304) (q : Fin 1) (h : (w (ix1 p)).toNat < 4394000) :
    wrapped w (ix2 p q) = w (ix1 p) := by
  unfold wrapped
  refine (broadcastInDim_apply _ _ _ (ix2 p q) (ix1 p) (fun a => by obtain rfl : a = 0 := Subsingleton.elim _ _; rfl)).trans ?_
  change Scalar.select (BitVec.ofBool ((w (ix1 p)).slt 0#32)) _ (w (ix1 p)) = _
  rw [not_slt_zero h]
  rfl

theorem inside_one (w : IVec S4194304 32) (hw : ∀ k, (w k).toNat < 4394000) (i : S4194304x1.Idx) : inside (wrapped w) i = 1#1 := by
  obtain ⟨p, q, rfl⟩ : ∃ p q, i = ix2 p q := ⟨i 0, i 1, eq_ix2 i⟩
  unfold inside
  change IntOp.andi (BitVec.ofBool ((0#32).sle (wrapped w (ix2 p q)))) (BitVec.ofBool ((wrapped w (ix2 p q)).sle 4393999#32)) = 1#1
  have h := hw (ix1 p)
  rw [wrapped_apply w p q h]
  generalize w (ix1 p) = v at h
  rw [show (0#32).sle v = true by rw [BitVec.sle_eq_decide, toInt_small h]; simp,
    show v.sle 4393999#32 = true by rw [BitVec.sle_eq_decide, toInt_small h, show (4393999#32 : BitVec 32).toInt = 4393999 by decide]; simp; omega]
  rfl

/-- Where every position lies in the table, the lookup reads the table there. -/
theorem lookup_apply (T : FVec F S4394000 .f32) (w : IVec S4194304 32) (hw : ∀ k, (w k).toNat < 4394000) (p : Fin 4194304) :
    lookup T w (ix1 p) = T (ix1 ⟨(w (ix1 p)).toNat, hw _⟩) := by
  unfold lookup
  change Scalar.select (Host.reduce IntOp.andi (inside (wrapped w)) (constantI S_ 1 1#1) reducesTo_S4194304x1_S4194304_d1 h_S_ (ix1 p))
    (Host.gather gather_S4394000_S4194304x1_S4194304_n_0_n_n_0_1_1 T (wrapped w) (ix1 p)) _ = _
  rw [Host.reduce_andi_one _ _ _ _ _ rfl (inside_one w hw)]
  refine Eq.trans (if_pos rfl) ?_
  refine Routing.gather_take1 gather_S4394000_S4194304x1_S4194304_n_0_n_n_0_1_1 rfl rfl rfl rfl T (wrapped w) p ⟨(w (ix1 p)).toNat, hw _⟩ ?_ (by norm_num)
  refine (wrapped_apply w p 0 (hw _)).trans ?_
  show w (ix1 p) = BitVec.ofNat 32 (w (ix1 p)).toNat
  rw [BitVec.ofNat_toNat, BitVec.setWidth_eq]

/-! ## The result -/

variable (V : Valuation τ sig (Elt F))

/-- The eight corners' positions in the flattened padded volume, both channels' voxels in one line. -/
def corner : Fin 8 → IVec S4194304 32
  | 0 => res_main_v94 V
  | 1 => res_main_v97 V
  | 2 => res_main_v100 V
  | 3 => res_main_v103 V
  | 4 => res_main_v106 V
  | 5 => res_main_v109 V
  | 6 => res_main_v112 V
  | 7 => res_main_v115 V

/-- The reference's result at channel and voxel `k`. -/
def refAt (k : S2x2097152.Idx) : F .f32 :=
  dot8 (wts (res_main_v119 V k) (res_main_v121 V k) (res_main_v123 V k))
    fun c => shapeCast S2x2097152 (lookup (res_main_v93 V) (corner V c)) shapeCasts_S4194304_S2x2097152 k

/-- Every run of the reference ends with the result at `refAt`, reshaped, and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179)
          = shapeCast S1x2x128x128x128 (refAt (launchContents m c)) shapeCasts_S2x2097152_S1x2x128x128x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (congrArg (fun x => shapeCast S1x2x128x128x128 x shapeCasts_S2x2097152_S1x2x128x128x128)
    (funext fun k => by unfold refAt res_main_v174; rfl)), (h c).2⟩) (Cert.ReferenceIdeal.Value.run m ρ)

end Cert.Proof.WarpReference

end
-- ==== Proof.Mesh.lean ====
/-
  The reference's coordinates over the extended reals: the evenly spaced numbers 0 … 127 are the integers, and a coordinate is
  the kernel's: the displacement, plus the voxel's own coordinate, plus one.
-/
module

public import Idealize.ShloMosaic.Lib.Pipeline.Value
public import Idealize.ShloMosaic.Lib.ValueIdxCore
public import Idealize.ShloMosaic.PureOps.Ideal
public import proofs.«01_k».proof.Proof.Spec
public import proofs.«01_k».proof.Proof.Gen.ReferenceIdeal.Run

@[expose] public section

noncomputable section

namespace Cert.Proof.WarpReference

open Cert.ReferenceIdeal Cert.ReferenceIdeal.Gen Cert.ReferenceIdeal.Value
open Idealize.ShloMosaic Idealize.ShloMosaic.StableHlo Idealize.ShloMosaic.ValueIdx
open Cert.Proof.Spec (pos)

/-- The fractions 0/127 … 126/127, -/
def frac : FVec Ideal S127 .f32 :=
  Host.divf (sitofp .f32 (iotaInDim S127 32 0)) (broadcastInDim S127 ![] bcast_S_S127 (constant S_ .f32 0x42FE0000#32))

/-- and the evenly spaced numbers 0 … 127 made of them. -/
def evenly : FVec Ideal S128 .f32 :=
  concatenate S128 0 [⟨S127, (addf (mulf (broadcastInDim S127 ![0] bcast_S1_S127_0 (shapeCast S1 (constant S_ .f32 0x00000000#32) shapeCasts_S_S1))
      (subf (broadcastInDim S127 ![] bcast_S_S127 (constant S_ .f32 0x3F800000#32)) frac))
      (mulf (broadcastInDim S127 ![0] bcast_S1_S127_0 (shapeCast S1 (constant S_ .f32 0x42FE0000#32) shapeCasts_S_S1)) frac))⟩,
    ⟨S1, (broadcastInDim S1 ![] bcast_S_S1 (constant (F := Ideal) S_ .f32 0x42FE0000#32))⟩] concatenates_S127_S1_S128_d0

theorem word_127 : Ideal.ofBits .f32 0x42FE0000#32 = ((127 : ℝ) : EReal) := by
  simp [Ideal.ofBits, Ideal.ieee, -EReal.coe_mul]; norm_num

theorem word_1 : Ideal.ofBits .f32 0x3F800000#32 = ((1 : ℝ) : EReal) := by
  simp [Ideal.ofBits, Ideal.ieee, -EReal.coe_mul]; norm_num

theorem word_0 : Ideal.ofBits .f32 0x00000000#32 = ((0 : ℝ) : EReal) := by
  simp [Ideal.ofBits, Ideal.ieee, -EReal.coe_mul]

theorem toInt_ofNat_small {n : ℕ} (h : n < 130) : (BitVec.ofNat 32 n).toInt = n := by
  rw [BitVec.toInt_eq_toNat_of_lt (by rw [BitVec.toNat_ofNat]; omega), BitVec.toNat_ofNat]
  omega

theorem frac_apply (i : Fin 127) : frac (ix1 i) = (((i.val : ℝ) / 127 : ℝ) : EReal) := by
  change Ideal.div (((BitVec.ofNat 32 i.val).toInt : ℝ) : EReal) (Ideal.ofBits .f32 0x42FE0000#32) = _
  rw [word_127, toInt_ofNat_small (by omega)]
  simp [Ideal.div]
  rw [div_eq_mul_inv, EReal.coe_mul, EReal.coe_inv]
  norm_cast

/-- Entry `i` of the evenly spaced numbers is `i`. -/
theorem evenly_apply (i : Fin 128) : evenly (ix1 i) = ((i.val : ℝ) : EReal) := by
  unfold evenly
  by_cases h : i.val < 127
  · refine (concatenate_pair_apply_left (t := S128) (s₁ := S127) (s₂ := S1) 0 _ _ _ (ix1 i) rfl (ix1 (⟨i.val, h⟩ : Fin 127))
      (fun b => by obtain rfl : b = 0 := Subsingleton.elim _ _; rfl)).trans ?_
    change Ideal.ofBits .f32 0x00000000#32 * (Ideal.ofBits .f32 0x3F800000#32 - frac (ix1 ⟨i.val, h⟩))
      + Ideal.ofBits .f32 0x42FE0000#32 * frac (ix1 ⟨i.val, h⟩) = _
    rw [frac_apply, word_127, word_1, word_0]
    norm_cast
    push_cast
    field_simp
    ring
  · refine (concatenate_pair_apply_right (t := S128) (s₁ := S127) (s₂ := S1) 0 _ _ _ (ix1 i) rfl rfl (ix1 (0 : Fin 1))
      (fun b hb => absurd (Subsingleton.elim _ _) hb) (by show 0 + 127 = i.val; omega)).trans ?_
    change Ideal.ofBits .f32 0x42FE0000#32 = _
    rw [word_127, show i.val = 127 by omega]
    norm_num

end Cert.Proof.WarpReference

end
-- ==== Proof.Corners.lean ====
/-
  The reference at one channel and voxel, over the extended reals: its coordinates, its corners' positions, and its result as
  a sum over the padded field's entries.
-/
module

public import proofs.«01_k».proof.Proof.Volume
public import proofs.«01_k».proof.Proof.Lookup
public import proofs.«01_k».proof.Proof.Mesh

@[expose] public section

noncomputable section

namespace Cert.Proof.WarpReference

open Cert.ReferenceIdeal Cert.ReferenceIdeal.Gen Cert.ReferenceIdeal.Value
open Idealize.ShloMosaic Idealize.ShloMosaic.StableHlo Idealize.ShloMosaic.ValueIdx
open Cert.Proof.Spec Cert.Proof.Floor Cert.Proof.Volume

/-! ## The coordinates -/

/-- A number for each voxel, given to both channels and put in a line, is read at the voxel's place. -/
theorem spread_apply (E : FVec Ideal S1x128x128x128 .f32) (c : Fin 2) (n : Fin 2097152) :
    shapeCast S2x2097152 (broadcastInDim S1x2x128x128x128 ![0, 1, 2, 3, 4] bcast_S1x1x128x128x128_S1x2x128x128x128_0_1_2_3_4
      (broadcastInDim S1x1x128x128x128 ![0, 2, 3, 4] bcast_S1x128x128x128_S1x1x128x128x128_0_2_3_4 E))
      shapeCasts_S1x2x128x128x128_S2x2097152 (ix2 c n) = E (vox n) := by
  have hc := c.isLt
  refine (shapeCast_apply _ _ _ (ix5 0 c ⟨n.val / 16384, by omega⟩ ⟨n.val / 128 % 128, by omega⟩ ⟨n.val % 128, by omega⟩) ?_).trans ?_
  · rw [Shape.rowMajor_val_five, Shape.rowMajor_val_two]
    show (((0 * 2 + c.val) * 128 + n.val / 16384) * 128 + n.val / 128 % 128) * 128 + n.val % 128 = c.val * 2097152 + n.val
    omega
  refine (broadcastInDim_apply _ _ _ _ (ix5 0 0 ⟨n.val / 16384, by omega⟩ ⟨n.val / 128 % 128, by omega⟩ ⟨n.val % 128, by omega⟩) ?_).trans ?_
  · intro a
    match a with
    | ⟨0, _⟩ => rfl
    | ⟨1, _⟩ => rfl
    | ⟨2, _⟩ => rfl
    | ⟨3, _⟩ => rfl
    | ⟨4, _⟩ => rfl
  refine broadcastInDim_apply _ _ _ _ _ fun a => ?_
  match a with
  | ⟨0, _⟩ => rfl
  | ⟨1, _⟩ => rfl
  | ⟨2, _⟩ => rfl
  | ⟨3, _⟩ => rfl

/-- The same number along every line of a grid but one axis's, read at a voxel's place: the number at its coordinate there. -/
theorem alongX_apply (e : FVec Ideal S128 .f32) (n : Fin 2097152) :
    broadcastInDim S1x128x128x128 ![1, 2, 3] bcast_S128x128x128_S1x128x128x128_1_2_3 (broadcastInDim S128x128x128 ![0, 1, 2]
      bcast_S1x128x1_S128x128x128_0_1_2 (broadcastInDim S1x128x1 ![1] bcast_S128_S1x128x1_1 e)) (vox n)
      = e (ix1 ⟨n.val / 128 % 128, by omega⟩) := by
  refine (broadcastInDim_apply _ _ _ _ (ix3 ⟨n.val / 16384, by omega⟩ ⟨n.val / 128 % 128, by omega⟩ ⟨n.val % 128, by omega⟩) ?_).trans ?_
  · intro a
    match a with
    | ⟨0, _⟩ => rfl
    | ⟨1, _⟩ => rfl
    | ⟨2, _⟩ => rfl
  refine (broadcastInDim_apply _ _ _ _ (ix3 0 ⟨n.val / 128 % 128, by omega⟩ 0) ?_).trans ?_
  · intro a
    match a with
    | ⟨0, _⟩ => rfl
    | ⟨1, _⟩ => rfl
    | ⟨2, _⟩ => rfl
  refine broadcastInDim_apply _ _ _ _ _ fun a => ?_
  match a with
  | ⟨0, _⟩ => rfl

theorem alongY_apply (e : FVec Ideal S128 .f32) (n : Fin 2097152) :
    broadcastInDim S1x128x128x128 ![1, 2, 3] bcast_S128x128x128_S1x128x128x128_1_2_3 (broadcastInDim S128x128x128 ![0, 1, 2]
      bcast_S128x1x1_S128x128x128_0_1_2 (broadcastInDim S128x1x1 ![0] bcast_S128_S128x1x1_0 e)) (vox n)
      = e (ix1 ⟨n.val / 16384, by omega⟩) := by
  refine (broadcastInDim_apply _ _ _ _ (ix3 ⟨n.val / 16384, by omega⟩ ⟨n.val / 128 % 128, by omega⟩ ⟨n.val % 128, by omega⟩) ?_).trans ?_
  · intro a
    match a with
    | ⟨0, _⟩ => rfl
    | ⟨1, _⟩ => rfl
    | ⟨2, _⟩ => rfl
  refine (broadcastInDim_apply _ _ _ _ (ix3 ⟨n.val / 16384, by omega⟩ 0 0) ?_).trans ?_
  · intro a
    match a with
    | ⟨0, _⟩ => rfl
    | ⟨1, _⟩ => rfl
    | ⟨2, _⟩ => rfl
  refine broadcastInDim_apply _ _ _ _ _ fun a => ?_
  match a with
  | ⟨0, _⟩ => rfl

theorem alongZ_apply (e : FVec Ideal S128 .f32) (n : Fin 2097152) :
    broadcastInDim S1x128x128x128 ![1, 2, 3] bcast_S128x128x128_S1x128x128x128_1_2_3 (broadcastInDim S128x128x128 ![0, 1, 2]
      bcast_S1x1x128_S128x128x128_0_1_2 (broadcastInDim S1x1x128 ![2] bcast_S128_S1x1x128_2 e)) (vox n)
      = e (ix1 ⟨n.val % 128, by omega⟩) := by
  refine (broadcastInDim_apply _ _ _ _ (ix3 ⟨n.val / 16384, by omega⟩ ⟨n.val / 128 % 128, by omega⟩ ⟨n.val % 128, by omega⟩) ?_).trans ?_
  · intro a
    match a with
    | ⟨0, _⟩ => rfl
    | ⟨1, _⟩ => rfl
    | ⟨2, _⟩ => rfl
  refine (broadcastInDim_apply _ _ _ _ (ix3 0 0 ⟨n.val % 128, by omega⟩) ?_).trans ?_
  · intro a
    match a with
    | ⟨0, _⟩ => rfl
    | ⟨1, _⟩ => rfl
    | ⟨2, _⟩ => rfl
  refine broadcastInDim_apply _ _ _ _ _ fun a => ?_
  match a with
  | ⟨0, _⟩ => rfl

/-- A displacement plus an evenly spaced number plus one is the kernel's coordinate. -/
theorem pos_evenly (δ : Ideal .f32) (i : Fin 128) :
    FloatOps.addf (FloatOps.addf δ (evenly (ix1 i))) (one : Ideal .f32) = pos δ (BitVec.ofNat 32 i.val) := by
  rw [evenly_apply]
  unfold pos
  change _ = FloatOps.addf (FloatOps.addf δ (((BitVec.ofNat 32 i.val).toInt : ℝ) : EReal)) (one : Ideal .f32)
  rw [toInt_ofNat_small (by omega)]
  norm_cast

variable (V : Valuation τ sig (Elt Ideal))

/-- The arguments: the field, and the displacements along the three axes. -/
abbrev field : FVec Ideal Field .f32 := V (Proc.devRef .tc main_arg0)
abbrev dX : FVec Ideal Grid .f32 := V (Proc.devRef .tc main_arg1)
abbrev dY : FVec Ideal Grid .f32 := V (Proc.devRef .tc main_arg2)
abbrev dZ : FVec Ideal Grid .f32 := V (Proc.devRef .tc main_arg3)

theorem x_apply (c : Fin 2) (n : Fin 2097152) :
    (res_main_v20 V : FVec Ideal S2x2097152 .f32) (ix2 c n) = pos (dX V (vox n)) (BitVec.ofNat 32 (n.val / 128 % 128)) := by
  refine Eq.trans ?_ (pos_evenly _ ⟨n.val / 128 % 128, by omega⟩)
  rw [← alongX_apply evenly n]
  exact congrArg (fun t : Ideal .f32 => FloatOps.addf t (one : Ideal .f32)) (spread_apply _ c n)

theorem y_apply (c : Fin 2) (n : Fin 2097152) :
    (res_main_v25 V : FVec Ideal S2x2097152 .f32) (ix2 c n) = pos (dY V (vox n)) (BitVec.ofNat 32 (n.val / 16384)) := by
  refine Eq.trans ?_ (pos_evenly _ ⟨n.val / 16384, by omega⟩)
  rw [← alongY_apply evenly n]
  exact congrArg (fun t : Ideal .f32 => FloatOps.addf t (one : Ideal .f32)) (spread_apply _ c n)

theorem z_apply (c : Fin 2) (n : Fin 2097152) :
    (res_main_v30 V : FVec Ideal S2x2097152 .f32) (ix2 c n) = pos (dZ V (vox n)) (BitVec.ofNat 32 (n.val % 128)) := by
  refine Eq.trans ?_ (pos_evenly _ ⟨n.val % 128, by omega⟩)
  rw [← alongZ_apply evenly n]
  exact congrArg (fun t : Ideal .f32 => FloatOps.addf t (one : Ideal .f32)) (spread_apply _ c n)

/-! ## The corners' positions -/

/-- The coordinates along each axis, both channels' voxels in one line. -/
abbrev xs : FVec Ideal S2x2097152 .f32 := res_main_v20 V
abbrev ys : FVec Ideal S2x2097152 .f32 := res_main_v25 V
abbrev zs : FVec Ideal S2x2097152 .f32 := res_main_v30 V

theorem xLo : res_main_v43 V = fun k => loRef (xs V k) := funext fun _ => clip_swap _
theorem xHi : res_main_v44 V = fun k => hiRef (xs V k) := funext fun _ => clip_swap _
theorem yHi : res_main_v46 V = fun k => hiRef (ys V k) := funext fun _ => clip_swap _
theorem zLo : res_main_v47 V = fun k => loRef (zs V k) := funext fun _ => clip_swap _
theorem zHi : res_main_v48 V = fun k => hiRef (zs V k) := funext fun _ => clip_swap _

theorem start (k : S2x2097152.Idx) : (res_main_v53 V : IVec S2x2097152 32) k = base (k 0) := by
  obtain ⟨c, n, rfl⟩ : ∃ c n, k = ix2 c n := ⟨k 0, k 1, eq_ix2 k⟩
  unfold res_main_v53
  refine (broadcastInDim_apply _ _ _ (ix2 c n) (ix2 c 0) (fun a => match a with | ⟨0, _⟩ => rfl | ⟨1, _⟩ => rfl)).trans ?_
  refine (broadcastInDim_apply _ _ _ (ix2 c 0) (ix1 c) (fun a => match a with | ⟨0, _⟩ => rfl)).trans ?_
  rfl

theorem yLo : res_main_v56 V = fun k => IntOp.addi (base (k 0)) (IntOp.muli (loRef (ys V k)) 16900#32) :=
  funext fun k => congrArg₂ IntOp.addi (start V k) (congrArg (IntOp.muli · 16900#32) (clip_swap _))
theorem yUp : res_main_v59 V = fun k => IntOp.addi (base (k 0)) (IntOp.muli (hiRef (ys V k)) 16900#32) :=
  funext fun k => congrArg₂ IntOp.addi (start V k) (congrArg (IntOp.muli · 16900#32) (clip_swap _))

/-- Corner `q`'s position at each channel and voxel. -/
def place (q : Fin 8) : IVec S2x2097152 32 := fun k => spot (base (k 0)) (pick (upY q) (loRef (ys V k)) (hiRef (ys V k)))
  (pick (upX q) (loRef (xs V k)) (hiRef (xs V k))) (pick (upZ q) (loRef (zs V k)) (hiRef (zs V k)))

theorem place_lt (q : Fin 8) (k : S2x2097152.Idx) : (place V q k).toNat < 4394000 :=
  spot_lt (k 0) (pickRef_lt _ _) (pickRef_lt _ _) (pickRef_lt _ _)

/-- The three parts of a position put together. -/
def joined (y x z : IVec S2x2097152 32) : IVec S4194304 32 :=
  shapeCast S4194304 (addi (addi y (muli x (broadcastInDim S2x2097152 ![] bcast_S_S2x2097152 (constantI S_ 32 130#32)))) z) shapeCasts_S2x2097152_S4194304

theorem corner_eq (q : Fin 8) : corner V q = shapeCast S4194304 (place V q) shapeCasts_S2x2097152_S4194304 := by
  match q with
  | 0 => show joined (res_main_v56 V) (res_main_v43 V) (res_main_v47 V) = _; rw [yLo, xLo, zLo]; rfl
  | 1 => show joined (res_main_v59 V) (res_main_v43 V) (res_main_v47 V) = _; rw [yUp, xLo, zLo]; rfl
  | 2 => show joined (res_main_v56 V) (res_main_v44 V) (res_main_v47 V) = _; rw [yLo, xHi, zLo]; rfl
  | 3 => show joined (res_main_v59 V) (res_main_v44 V) (res_main_v47 V) = _; rw [yUp, xHi, zLo]; rfl
  | 4 => show joined (res_main_v56 V) (res_main_v43 V) (res_main_v48 V) = _; rw [yLo, xLo, zHi]; rfl
  | 5 => show joined (res_main_v59 V) (res_main_v43 V) (res_main_v48 V) = _; rw [yUp, xLo, zHi]; rfl
  | 6 => show joined (res_main_v56 V) (res_main_v44 V) (res_main_v48 V) = _; rw [yLo, xHi, zHi]; rfl
  | 7 => show joined (res_main_v59 V) (res_main_v44 V) (res_main_v48 V) = _; rw [yUp, xHi, zHi]; rfl

/-! ## The entries looked up -/

/-- The flattened padded field at an entry's position is the entry. -/
theorem flat_apply (c : Fin 2) {y x z : BitVec 32} (hy : y.toNat < 130) (hx : x.toNat < 130) (hz : z.toNat < 130) :
    (res_main_v93 V : FVec Ideal S4394000 .f32) (ix1 ⟨(spot (base c) y x z).toNat, spot_lt c hy hx hz⟩) = entry (field V) c y x z := by
  have hc := c.isLt
  have hs := spot_toNat c hy hx hz
  have hl := spot_lt c hy hx hz
  show shapeCast S4394000 (shapeCast S2197000x2 (padded (field V)) shapeCasts_S1x2x130x130x130_S2197000x2) shapeCasts_S2197000x2_S4394000 _ = _
  refine (shapeCast_apply _ _ _ (ix2 ⟨(spot (base c) y x z).toNat / 2, by omega⟩ ⟨(spot (base c) y x z).toNat % 2, by omega⟩) ?_).trans ?_
  · rw [Shape.rowMajor_val_two, Shape.rowMajor_val_one]
    show (spot (base c) y x z).toNat / 2 * 2 + (spot (base c) y x z).toNat % 2 = (spot (base c) y x z).toNat
    omega
  refine (shapeCast_apply _ _ _ (ix5 0 c (coord y) (coord x) (coord z)) ?_).trans ?_
  · rw [Shape.rowMajor_val_five, Shape.rowMajor_val_two]
    show (((0 * 2 + c.val) * 130 + (coord y).val) * 130 + (coord x).val) * 130 + (coord z).val
      = (spot (base c) y x z).toNat / 2 * 2 + (spot (base c) y x z).toNat % 2
    rw [coord_val hy, coord_val hx, coord_val hz]
    omega
  rfl

theorem looked_up (T : FVec Ideal S4394000 .f32) (u : IVec S2x2097152 32) (hu : ∀ k, (u k).toNat < 4394000) (c : Fin 2) (n : Fin 2097152) :
    shapeCast S2x2097152 (lookup T (shapeCast S4194304 u shapeCasts_S2x2097152_S4194304)) shapeCasts_S4194304_S2x2097152 (ix2 c n)
      = T (ix1 ⟨(u (ix2 c n)).toNat, hu _⟩) := by
  have hc := c.isLt
  have hr : (S4194304.rowMajor (ix1 (⟨c.val * 2097152 + n.val, by omega⟩ : Fin 4194304))).val = (S2x2097152.rowMajor (ix2 c n)).val := by
    rw [Shape.rowMajor_val_one, Shape.rowMajor_val_two]
    rfl
  refine (shapeCast_apply _ _ _ (ix1 (⟨c.val * 2097152 + n.val, by omega⟩ : Fin 4194304)) hr).trans ?_
  refine (lookup_apply T _ (fun _ => hu _) _).trans ?_
  refine congrArg (fun p : Fin 4394000 => T (ix1 p)) (Fin.ext ?_)
  exact congrArg BitVec.toNat (shapeCast_apply u _ _ (ix2 c n) hr.symm)

/-- What the reference finds at corner `q`. -/
theorem entry_found (q : Fin 8) (c : Fin 2) (n : Fin 2097152) :
    shapeCast S2x2097152 (lookup (res_main_v93 V) (corner V q)) shapeCasts_S4194304_S2x2097152 (ix2 c n)
      = entry (field V) c (pick (upY q) (loRef (ys V (ix2 c n))) (hiRef (ys V (ix2 c n))))
          (pick (upX q) (loRef (xs V (ix2 c n))) (hiRef (xs V (ix2 c n)))) (pick (upZ q) (loRef (zs V (ix2 c n))) (hiRef (zs V (ix2 c n)))) := by
  rw [corner_eq]
  refine (looked_up _ (place V q) (place_lt V q) c n).trans ?_
  exact flat_apply V c (pickRef_lt _ _) (pickRef_lt _ _) (pickRef_lt _ _)

/-! ## The result -/

theorem weight_x (k : S2x2097152.Idx) : (res_main_v119 V : FVec Ideal S2x2097152 .f32) k = wgt (xs V k) := by
  unfold wgt
  rw [hi_eq]
  unfold res_main_v119
  rw [xHi]
  rfl

theorem weight_y (k : S2x2097152.Idx) : (res_main_v121 V : FVec Ideal S2x2097152 .f32) k = wgt (ys V k) := by
  unfold wgt
  rw [hi_eq]
  unfold res_main_v121
  rw [yHi]
  rfl

theorem weight_z (k : S2x2097152.Idx) : (res_main_v123 V : FVec Ideal S2x2097152 .f32) k = wgt (zs V k) := by
  unfold wgt
  rw [hi_eq]
  unfold res_main_v123
  rw [zHi]
  rfl

/-- The reference's result at a channel and voxel is the kernel's weighted sum, at coordinates alike to the kernel's. -/
theorem refAt_eq (c : Fin 2) (n : Fin 2097152) : refAt V (ix2 c n)
    = dot8 (wts (wgt (xs V (ix2 c n))) (wgt (ys V (ix2 c n))) (wgt (zs V (ix2 c n)))) fun q =>
        entry (field V) c (pick (upY q) (lo (ys V (ix2 c n))) (hi (ys V (ix2 c n))))
          (pick (upX q) (lo (xs V (ix2 c n))) (hi (xs V (ix2 c n)))) (pick (upZ q) (lo (zs V (ix2 c n))) (hi (zs V (ix2 c n)))) := by
  unfold refAt
  rw [weight_x, weight_y, weight_z]
  refine congrArg _ (funext fun q => ?_)
  exact (entry_found V q c n).trans (entry_alike _ c (pick_alike _ _) (pick_alike _ _) (pick_alike _ _)).symm

end Cert.Proof.WarpReference

end
-- ==== Proof.OutcomeKernelIdeal.lean ====
/-
  What the host's arrays hold at the call and at the end, as terms of the arguments; and the program's frame.
-/
module

public import proofs.«01_k».proof.Proof.LaunchKernelIdeal

@[expose] public section

noncomputable section

namespace Cert.Proof.WarpKernelIdeal

open Cert.KernelIdeal Cert.KernelIdeal.Gen
open Idealize.ShloMosaic Idealize.ShloMosaic.StableHlo Idealize.SL.Sem
open Cert.Proof.Spec Cert.Proof.Lanes

variable {F : FTy → Type} [FloatOps F] (m : (ℓ : Loc nD τ sig) → Buf (Elt F) ℓ) (d : Dev nD)

/-! ## The arguments end as they were -/

theorem final_arg0 : final m d (Proc.devRef .tc main_arg0) = m (hostLoc d main_arg0) := by
  unfold final called atCall opsA opsB
  after_results_simp
  rfl

theorem final_arg1 : final m d (Proc.devRef .tc main_arg1) = m (hostLoc d main_arg1) := by
  unfold final called atCall opsA opsB
  after_results_simp
  rfl

theorem final_arg2 : final m d (Proc.devRef .tc main_arg2) = m (hostLoc d main_arg2) := by
  unfold final called atCall opsA opsB
  after_results_simp
  rfl

theorem final_arg3 : final m d (Proc.devRef .tc main_arg3) = m (hostLoc d main_arg3) := by
  unfold final called atCall opsA opsB
  after_results_simp
  rfl

/-- Every run ends, nothing faulting, with the arguments unchanged and every semaphore counter at zero. -/
theorem frame [∀ e, Nonempty (Elt F e)] (ρ : Dev nD → PrngReg) :
    θ_run (Cert.KernelIdeal.defs (F := F)) (Cert.KernelIdeal.threads (F := F)) ⟨m, fun _ => 0, ρ⟩ fun r => (∀ d : Dev nD,
      r.2.mem (hostLoc d main_arg0) = m (hostLoc d main_arg0) ∧ r.2.mem (hostLoc d main_arg1) = m (hostLoc d main_arg1)
        ∧ r.2.mem (hostLoc d main_arg2) = m (hostLoc d main_arg2) ∧ r.2.mem (hostLoc d main_arg3) = m (hostLoc d main_arg3))
      ∧ r.2.sem = fun _ => 0 :=
  (θ_run _ _ _).mono (fun _ h => ⟨fun d => ⟨(h.1 d main_arg0).trans (final_arg0 m d), (h.1 d main_arg1).trans (final_arg1 m d),
    (h.1 d main_arg2).trans (final_arg2 m d), (h.1 d main_arg3).trans (final_arg3 m d)⟩, h.2⟩) (run_main m ρ)

end Cert.Proof.WarpKernelIdeal

end
-- ==== Proof.Agree.lean ====
/-
  The kernel's result is the reference's, over the extended reals, at every channel and voxel.
-/
module

public import proofs.«01_k».proof.Defs
public import proofs.«01_k».proof.Proof.Arrays
public import proofs.«01_k».proof.Proof.Corners
public import proofs.«01_k».proof.Proof.OutcomeKernelIdeal

@[expose] public section

noncomputable section

namespace Cert.Proof.Agree

open Idealize.ShloMosaic Idealize.ShloMosaic.StableHlo Idealize.ShloMosaic.ValueIdx Idealize.SL.Sem
open Cert.Proof.Spec Cert.Proof.Tables Cert.Proof.Volume
open Cert.Proof.WarpKernelIdeal (hostLoc warped table tab_cell final)

section Voxel

variable (m : (ℓ : Loc KernelIdeal.nD KernelIdeal.τ KernelIdeal.sig) → Buf (Elt Ideal) ℓ) (d : Dev KernelIdeal.nD)

/-- The kernel's result at a channel and voxel, its tables' entries those of the padded field. -/
theorem warped_eq (c : Fin 2) (n : Fin 2097152) (x y z : Ideal .f32)
    (hx : pos ((m (hostLoc d KernelIdeal.main_arg1) : FVec Ideal Grid .f32) (vox n)) (BitVec.ofNat 32 (n.val / 128 % 128)) = x)
    (hy : pos ((m (hostLoc d KernelIdeal.main_arg2) : FVec Ideal Grid .f32) (vox n)) (BitVec.ofNat 32 (n.val / 16384)) = y)
    (hz : pos ((m (hostLoc d KernelIdeal.main_arg3) : FVec Ideal Grid .f32) (vox n)) (BitVec.ofNat 32 (n.val % 128)) = z) :
    warped m d (ix2 c n) = dot8 (wts (wgt x) (wgt y) (wgt z)) fun q =>
      entry (m (hostLoc d KernelIdeal.main_arg0) : FVec Ideal Field .f32) c (pick (upY q) (lo y) (hi y)) (pick (upX q) (lo x) (hi x))
        (pick (upZ q) (lo z) (hi z)) := by
  subst hx hy hz
  unfold warped
  show voxel (tab (table m d c)) ((WarpKernelIdeal.arrays m d).x (ix1 n)) ((WarpKernelIdeal.arrays m d).y (ix1 n))
    ((WarpKernelIdeal.arrays m d).z (ix1 n)) (BitVec.ofNat 32 n.val) = _
  rw [WarpKernelIdeal.x_apply, WarpKernelIdeal.y_apply, WarpKernelIdeal.z_apply]
  unfold voxel
  rw [meshX_ofNat n.isLt, meshY_ofNat n.isLt, meshZ_ofNat n.isLt]
  refine congrArg _ (funext fun q => ?_)
  rw [idx_eq]
  exact tab_cell m d c (pick_lt _ _) (pick_lt _ _) (pick_lt _ _)

variable (V : Valuation ReferenceIdeal.τ ReferenceIdeal.sig (Elt Ideal))

/-- From the same arguments, the kernel's result is the reference's. -/
theorem results_eq (h0 : WarpReference.field V = m (hostLoc d KernelIdeal.main_arg0)) (h1 : WarpReference.dX V = m (hostLoc d KernelIdeal.main_arg1))
    (h2 : WarpReference.dY V = m (hostLoc d KernelIdeal.main_arg2)) (h3 : WarpReference.dZ V = m (hostLoc d KernelIdeal.main_arg3)) :
    warped m d = WarpReference.refAt V := by
  funext k
  obtain ⟨c, n, rfl⟩ : ∃ c n, k = ix2 c n := ⟨k 0, k 1, eq_ix2 k⟩
  rw [WarpReference.refAt_eq, h0]
  refine warped_eq m d c n _ _ _ ?_ ?_ ?_
  · rw [← h1]; exact (WarpReference.x_apply V c n).symm
  · rw [← h2]; exact (WarpReference.y_apply V c n).symm
  · rw [← h3]; exact (WarpReference.z_apply V c n).symm

end Voxel

/-- From equal arguments the kernel and the reference both run, end with equal results, and leave the arguments unchanged. -/
theorem algebraic : Cert.algebraic_KernelIdeal_ReferenceIdeal := by
  intro m g m' g' _ hargs
  refine ⟨fun c => final m c (Proc.devRef .tc KernelIdeal.main_v14), ?_, ?_⟩
  · exact (θ_run _ _ _).mono (fun _ h c => ⟨h.1 c KernelIdeal.main_v14, (h.1 c KernelIdeal.main_arg0).trans (WarpKernelIdeal.final_arg0 m c),
      (h.1 c KernelIdeal.main_arg1).trans (WarpKernelIdeal.final_arg1 m c), (h.1 c KernelIdeal.main_arg2).trans (WarpKernelIdeal.final_arg2 m c),
      (h.1 c KernelIdeal.main_arg3).trans (WarpKernelIdeal.final_arg3 m c)⟩) (WarpKernelIdeal.run_main m g)
  · refine (θ_run _ _ _).mono (fun _ h c => ⟨(h c).1.trans ?_, (h c).2⟩) (WarpReference.run_value m' g')
    obtain ⟨h0, h1, h2, h3⟩ := hargs c
    refine Eq.trans ?_ (WarpKernelIdeal.final_v14 m c).symm
    rw [WarpKernelIdeal.stacked_eq, results_eq m c (launchContents m' c) h0 h1 h2 h3]

end Cert.Proof.Agree

end
-- ==== Proof.Reference.lean ====
/-
  The reference's frame: its run, read off its operations, and the counters of a program that declares no semaphore.
-/
module

public import proofs.«01_k».proof.Proof.Gen.ReferenceIdeal.Run

@[expose] public section

noncomputable section

namespace Cert.Proof.WarpReference

open Cert.ReferenceIdeal Cert.ReferenceIdeal.Gen
open Idealize.ShloMosaic Idealize.ShloMosaic.StableHlo Idealize.SL.Sem

variable {F : FTy → Type} [FloatOps F]

/-- The reference declares no semaphore: two states of the counters are the same. -/
theorem counters_eq {α : Type} (s s' : GSem nD τ sig → α) : s = s' := by
  funext g
  obtain ⟨t, g⟩ := g
  exact nomatch g

/-- Every run of the reference ends with the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => (h c).2, counters_eq _ _⟩) (Cert.ReferenceIdeal.Value.run m ρ)

end Cert.Proof.WarpReference

end
-- ==== Proof.lean ====
/-
  The claims, each from the module that proves it.
-/
module

public import proofs.«01_k».proof.Defs
public import proofs.«01_k».proof.Proof.Agree
public import proofs.«01_k».proof.Proof.OutcomeKernel
public import proofs.«01_k».proof.Proof.OutcomeKernelIdeal
public import proofs.«01_k».proof.Proof.Reference
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

/-- Both programs and the reference run with their arguments unchanged and their counters at zero, and over the extended reals the
    kernel's result is the reference's. -/
theorem claim : Cert.Claim :=
  ⟨Cert.Kernel.Gen.facts, Cert.KernelIdeal.Gen.facts, Cert.ReferenceIdeal.Gen.facts,
    fun m g _ => WarpKernel.frame m g, fun m g _ => WarpKernelIdeal.frame m g, fun m g _ => WarpReference.frame m g, trivial,
    Agree.algebraic⟩

end Cert.Proof

end
